-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_at_start [hPre_at_start : Cert.Pre_at_start.Facts] (m : (ℓ : Loc Cert.KernelIdeal.nD Cert.KernelIdeal.τ Cert.KernelIdeal.sig) → Buf (Elt Ideal) ℓ) : Prop :=
  ∀ c : Dev Cert.KernelIdeal.nD,
    (Cert.Pre_at_start.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_at_start [hPre_at_start : Cert.Pre_at_start.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_at_start.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_at_start [hKernelIdeal : Cert.KernelIdeal.Facts] [hPre_at_start : Cert.Pre_at_start.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_at_start m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_at_start [hReferenceIdeal : Cert.ReferenceIdeal.Facts] [hPre_at_start : Cert.Pre_at_start.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_at_start m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_at_start [hKernelIdeal : Cert.KernelIdeal.Facts] [hReferenceIdeal : Cert.ReferenceIdeal.Facts] [hPre_at_start : Cert.Pre_at_start.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_at_start m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_at_start : Cert.Pre_at_start.Facts),
    quiescent_Kernel (hKernel := hKernel)
    ∧ quiescent_KernelIdeal (hKernelIdeal := hKernelIdeal)
    ∧ quiescent_KernelIdeal_pre_at_start (hKernelIdeal := hKernelIdeal) (hPre_at_start := hPre_at_start)
    ∧ quiescent_ReferenceIdeal (hReferenceIdeal := hReferenceIdeal)
    ∧ quiescent_ReferenceIdeal_pre_at_start (hReferenceIdeal := hReferenceIdeal) (hPre_at_start := hPre_at_start)
    ∧ preserves_Kernel_KernelIdeal
    ∧ algebraic_KernelIdeal_ReferenceIdeal_pre_at_start (hKernelIdeal := hKernelIdeal) (hReferenceIdeal := hReferenceIdeal) (hPre_at_start := hPre_at_start)
-- ==== Pre_at_start.lean ====
abbrev S16384x128 : Shape := ⟨2, ![16384, 128]⟩
abbrev S128x262144 : Shape := ⟨2, ![128, 262144]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S16384x128 .f32) (main_arg1 : FVec F S128x262144 .f32) (main_arg2 : IVec S1 32) : IVec S_ 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 1 := constantI S_ 1 1#1
  let main_v2 : IVec S_ 1 := (fun x v => Host.reduce IntOp.andi x v reducesTo_S1_S_d0 h_S_) main_v1 main_c_0
  main_v2
-- ==== Kernel.lean ====
abbrev S16384x128 : Shape := ⟨2, ![16384, 128]⟩
abbrev S128x262144 : Shape := ⟨2, ![128, 262144]⟩
abbrev S1 : Shape := ⟨1, ![1]⟩
abbrev S128x16384 : Shape := ⟨2, ![128, 16384]⟩
abbrev S8192x128 : Shape := ⟨2, ![8192, 128]⟩
abbrev S128x8192 : Shape := ⟨2, ![128, 8192]⟩
abbrev S128x512 : Shape := ⟨2, ![128, 512]⟩
abbrev S_ : Shape := ⟨0, ![]⟩

abbrev nBuf : Table → Nat
  | .hbm => 31
  | .local .tc .vmem => 8
  | .local .scVector .vmem => 1
  | _ => 0

abbrev bufTy : (tb : Table) → Fin (nBuf tb) → BufTy
  | .hbm, ⟨0, _⟩ => ⟨S16384x128, .f32⟩
  | .hbm, ⟨1, _⟩ => ⟨S128x262144, .f32⟩
  | .hbm, ⟨2, _⟩ => ⟨S1, .i32⟩
  | .hbm, ⟨3, _⟩ => ⟨S128x16384, .f32⟩
  | .hbm, ⟨4, _⟩ => ⟨S128x262144, .f32⟩
  | .hbm, ⟨5, _⟩ => ⟨S128x262144, .f32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S1, .i1⟩
  | .hbm, ⟨20, _⟩ => ⟨S_, .i32⟩
  | .hbm, ⟨21, _⟩ => ⟨S1, .i32⟩
  | .hbm, ⟨22, _⟩ => ⟨S1, .i1⟩
  | .hbm, ⟨23, _⟩ => ⟨S_, .i32⟩
  | .hbm, ⟨24, _⟩ => ⟨S_, .i1⟩
  | .hbm, ⟨25, _⟩ => ⟨S1, .i1⟩
  | .hbm, ⟨26, _⟩ => ⟨S1, .i1⟩
  | .hbm, ⟨27, _⟩ => ⟨S1, .i1⟩
  | .hbm, ⟨28, _⟩ => ⟨S1, .i32⟩
  | .hbm, ⟨29, _⟩ => ⟨S1, .i32⟩
  | .hbm, ⟨30, _⟩ => ⟨S1, .i32⟩
  | .local .tc .vmem, ⟨0, _⟩ => ⟨S8192x128, .f32⟩
  | .local .tc .vmem, ⟨1, _⟩ => ⟨S8192x128, .f32⟩
  | .local .tc .vmem, ⟨2, _⟩ => ⟨S128x8192, .f32⟩
  | .local .tc .vmem, ⟨3, _⟩ => ⟨S128x8192, .f32⟩
  | .local .tc .vmem, ⟨4, _⟩ => ⟨S128x8192, .f32⟩
  | .local .tc .vmem, ⟨5, _⟩ => ⟨S128x8192, .f32⟩
  | .local .tc .vmem, ⟨6, _⟩ => ⟨S128x8192, .f32⟩
  | .local .tc .vmem, ⟨7, _⟩ => ⟨S128x8192, .f32⟩
  | .local .scVector .vmem, ⟨0, _⟩ => ⟨S128x512, .f32⟩
  | _, _ => ⟨S16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v5 : Ref sig .tc := ⟨.hbm, 30, rfl⟩
abbrev main_v0_scv : Ref sig .scVector := ⟨.hbm, 3, rfl⟩
abbrev main_v2_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_scratch0 : Ref sig .scVector := ⟨.vmem, 0, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![c0_i32.toNat, v0.toNat]

abbrev stage1_0 : Fin 2 → Memref sig .tc .vmem S128x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 16], ![false, false]⟩

def k2_off1 (i : grid2.Coords) : Fin 2 → Nat :=
  let c0_i32_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
def k2_off2 (i : grid2.Coords) : Fin 2 → Nat :=
  let c0_i32_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x128 : Shape := ⟨2, ![16384, 128]⟩
abbrev S128x262144 : Shape := ⟨2, ![128, 262144]⟩
abbrev S1 : Shape := ⟨1, ![1]⟩
abbrev S_ : Shape := ⟨0, ![]⟩
abbrev S16384 : Shape := ⟨1, ![16384]⟩
abbrev S128x16384 : Shape := ⟨2, ![128, 16384]⟩
abbrev S16384x1 : Shape := ⟨2, ![16384, 1]⟩

abbrev nBuf : Space → Nat
  | .hbm => 64
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x262144, .f32⟩
  | .hbm, ⟨2, _⟩ => ⟨S1, .i32⟩
  | .hbm, ⟨3, _⟩ => ⟨S_, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S_, .i1⟩
  | .hbm, ⟨23, _⟩ => ⟨S16384, .i1⟩
  | .hbm, ⟨24, _⟩ => ⟨S16384, .i1⟩
  | .hbm, ⟨25, _⟩ => ⟨S16384, .i1⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S128x16384, .f32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S128x262144, .f32⟩
  | .hbm, ⟨39, _⟩ => ⟨S_, .i32⟩
  | .hbm, ⟨40, _⟩ => ⟨S1, .i32⟩
  | .hbm, ⟨41, _⟩ => ⟨S1, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S1, .i32⟩
  | .hbm, ⟨49, _⟩ => ⟨S1, .i32⟩
  | .hbm, ⟨50, _⟩ => ⟨S_, .i32⟩
  | .hbm, ⟨51, _⟩ => ⟨S1, .i32⟩
  | .hbm, ⟨52, _⟩ => ⟨S1, .i1⟩
  | .hbm, ⟨53, _⟩ => ⟨S_, .i32⟩
  | .hbm, ⟨54, _⟩ => ⟨S1, .i32⟩
  | .hbm, ⟨55, _⟩ => ⟨S1, .i1⟩
  | .hbm, ⟨56, _⟩ => ⟨S_, .i32⟩
  | .hbm, ⟨57, _⟩ => ⟨S_, .i1⟩
  | .hbm, ⟨58, _⟩ => ⟨S1, .i1⟩
  | .hbm, ⟨59, _⟩ => ⟨S1, .i1⟩
  | .hbm, ⟨60, _⟩ => ⟨S1, .i1⟩
  | .hbm, ⟨61, _⟩ => ⟨S1, .i32⟩
  | .hbm, ⟨62, _⟩ => ⟨S1, .i32⟩
  | .hbm, ⟨63, _⟩ => ⟨S1, .i32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_c_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v15 : Ref sig .tc := ⟨.hbm, 63, rfl⟩

abbrev nD : Nat := 1
abbrev τ : Topo := Topo.v7x

variable {F : FTy → Type} [FloatOps F]
-- ==== Proof.Tile.lean ====
/-
  The SparseCore call of the queue update: the set-up of the launch, what each vector subcore is handed and gives back,
  and the run of one subcore's task. Subcore `s` of SparseCore `c` copies columns `1024 s + 512 c` to `1024 s + 512 c + 511` of the
  transposed keys into its own buffer, then from there into the same columns of the new queue.
  Everything holds over any float family `F`: no arithmetic on a float is involved.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Queue

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program, its ghost state, its buffers -/

/-- The labels of the two TensorCore pipelines, under the SparseCore call's. -/
abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are four distinct unscoped ones, and no buffer is shared by tasks. -/
theorem scFacts : (K (F := F)).Facts where
  start_ne_taskDone := by show sc_start ≠ sc_taskDone; decide
  start_unscoped := by show (SemLoc.reg sc_start : SemLoc sig).isScoped .scScalar = false; decide
  taskDone_unscoped := by show (SemLoc.reg sc_taskDone : SemLoc sig).isScoped .scScalar = false; decide
  go_unscoped := by show (SemLoc.reg sc_go : SemLoc sig).isScoped .scVector = false; decide
  done_unscoped := by show (SemLoc.reg sc_done : SemLoc sig).isScoped .tc = false; decide
  noTaskShared := by show ∀ (b : DevRef τ sig) (c : Fin τ.nSC), b.owner = .sc c → sig.taskShared b.table b.idx = false; decide
  noSeq := fun _ => rfl

/-- The ghost state: the handshakes' rounds, the pipelines' rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipelines' rounds inside the machine's algebra. -/
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

/-- The transposed keys and the new queue, on device `d`. -/
abbrev kLoc (d : Dev nD) : Loc nD τ sig := (SparseCore.T d).loc main_v0
abbrev oLoc (d : Dev nD) : Loc nD τ sig := (SparseCore.T d).loc main_v2

local notation "kV" => (Memref.whole Cert.KernelIdeal.main_v0_scv : Memref Cert.KernelIdeal.sig Kind.scVector Space.hbm Cert.KernelIdeal.S128x16384 EltTy.f32)
local notation "oV" => (Memref.whole Cert.KernelIdeal.main_v2_scv : Memref Cert.KernelIdeal.sig Kind.scVector Space.hbm Cert.KernelIdeal.S128x262144 EltTy.f32)
local notation "bV" => (Memref.whole Cert.KernelIdeal.cc2_scratch0 : Memref Cert.KernelIdeal.sig Kind.scVector Space.vmem Cert.KernelIdeal.S128x512 EltTy.f32)

/-! ## The columns of one task -/

/-- The coordinates of subcore `s` of SparseCore `c`. -/
def tileAt (c : Fin 2) (s : Fin 16) : grid2.Coords :=
  fun | 0 => c | 1 => s | ⟨_ + 2, h⟩ => absurd h (Nat.not_lt.2 (Nat.le_add_left _ _))

/-- The task's columns, as a slice of the transposed keys and of the queue. -/
abbrev kRect (L : grid2.Coords) : Rect S128x16384 := Rect.unit (s := S128x16384) (k2_off1 L) S128x512.size (k2_off1_inb L)
abbrev oRect (L : grid2.Coords) : Rect S128x262144 := Rect.unit (s := S128x262144) (k2_off2 L) S128x512.size (k2_off2_inb L)
abbrev kSet (L : grid2.Coords) : Finset S128x16384.Idx := (kRect L).set
abbrev oSet (L : grid2.Coords) : Finset S128x262144.Idx := (oRect L).set

abbrev kM (L : grid2.Coords) : Memref sig .scVector .hbm S128x512 .f32 := (kV).slice (kRect L) (fun _ => rfl)
abbrev oM (L : grid2.Coords) : Memref sig .scVector .hbm S128x512 .f32 := (oV).slice (oRect L) (fun _ => rfl)

/-- First column of the task. -/
def col0 (L : grid2.Coords) : ℕ := 1024 * (L 1).val + 512 * (L 0).val

theorem mem_kSet (L : grid2.Coords) (j : S128x16384.Idx) : j ∈ kSet L ↔ col0 L ≤ (j 1).val ∧ (j 1).val < col0 L + 512 := by
  rw [Rect.mem_set_unit, k2_off1_eq]
  refine ⟨fun h => h 1, fun h a => ?_⟩
  match a with
  | 0 => exact ⟨Nat.zero_le _, by have := (j 0).isLt; simpa using this⟩
  | 1 => exact h

theorem mem_oSet (L : grid2.Coords) (j : S128x262144.Idx) : j ∈ oSet L ↔ col0 L ≤ (j 1).val ∧ (j 1).val < col0 L + 512 := by
  rw [Rect.mem_set_unit, k2_off2_eq]
  refine ⟨fun h => h 1, fun h a => ?_⟩
  match a with
  | 0 => exact ⟨Nat.zero_le _, by have := (j 0).isLt; simpa using this⟩
  | 1 => exact h

/-! ## What the call makes of the queue -/

/-- The new queue: the transposed keys `kt` in its first 16384 columns, `q` in the others. -/
def blend (kt : S128x16384.Idx → Elt F .f32) (q : S128x262144.Idx → Elt F .f32) : S128x262144.Idx → Elt F .f32 :=
  fun j => if h : (j 1).val < 16384 then kt (fun | 0 => j 0 | 1 => ⟨(j 1).val, h⟩ | ⟨_ + 2, h⟩ => absurd h (Nat.not_lt.2 (Nat.le_add_left _ _))) else q j

/-! ## The payload of the handshakes -/

variable (kt : S128x16384.Idx → Elt F .f32) (q₀ : S128x262144.Idx → Elt F .f32)

/-- A task's columns of the keys, and of the queue at contents `f`. -/
abbrev kPts (d : Dev nD) (L : grid2.Coords) : sProp 𝕄 := (kLoc d ↦[kSet L]{fullShare} (kt : Buf (Elt F) (kLoc d)) : sProp 𝕄)
abbrev oPts (f : S128x262144.Idx → Elt F .f32) (d : Dev nD) (L : grid2.Coords) : sProp 𝕄 := (oLoc d ↦[oSet L]{fullShare} (f : Buf (Elt F) (oLoc d)) : sProp 𝕄)

/-- What a SparseCore is handed (and, `f` the new queue, gives back): each of its sixteen tasks' columns. -/
abbrev corePts (f : S128x262144.Idx → Elt F .f32) (d : Dev nD) (c : Fin 2) : sProp 𝕄 :=
  bigSep Finset.univ fun s : Fin 16 => iprop(kPts kt d (tileAt c s) ∗ oPts f d (tileAt c s))

/-- The call takes the keys' columns and the first columns of the queue, and gives them back, the queue's overwritten. -/
def P (kt : Dev nD → S128x16384.Idx → Elt F .f32) (q₀ : Dev nD → S128x262144.Idx → Elt F .f32) :
    (K (F := F)).Pay (nD := nD) (Val := Elt F) (Name := ℕ) (U := UU) where
  st := fun q d c => match q with | 0 => corePts (kt d) (q₀ d) d c
  dn := fun q d c => match q with | 0 => corePts (kt d) (blend (kt d) (q₀ d)) d c
  go := fun q d c s => match q with | 0 => iprop(kPts (kt d) d (tileAt c s) ∗ oPts (q₀ d) d (tileAt c s))
  td := fun q d c s => match q with | 0 => iprop(kPts (kt d) d (tileAt c s) ∗ oPts (blend (kt d) (q₀ d)) d (tileAt c s))
  x := fun _ _ => iprop(emp)

section Payload

variable (kt : Dev nD → S128x16384.Idx → Elt F .f32) (q₀ : Dev nD → S128x262144.Idx → Elt F .f32)

instance P_storable : (P kt q₀).IsStorable where
  st q d c := match q with
    | 0 => (inferInstance : BI.Storable (upEmb : UEmb _ 𝕄) (corePts (kt d) (q₀ d) d c))
  dn q d c := match q with
    | 0 => (inferInstance : BI.Storable (upEmb : UEmb _ 𝕄) (corePts (kt d) (blend (kt d) (q₀ d)) d c))
  go q d c s := match q with
    | 0 => (inferInstance : BI.Storable (upEmb : UEmb _ 𝕄) iprop(kPts (kt d) d (tileAt c s) ∗ oPts (q₀ d) d (tileAt c s)))
  td q d c s := match q with
    | 0 => (inferInstance : BI.Storable (upEmb : UEmb _ 𝕄) iprop(kPts (kt d) d (tileAt c s) ∗ oPts (blend (kt d) (q₀ d)) d (tileAt c s)))

/-- A SparseCore's columns are its tasks' columns: handed out, and collected again. -/
theorem vecSplit : (K (F := F)).VecSplit' (P kt q₀) 0 := by
  intro d c
  show corePts (kt d) (q₀ d) d c ⊢ |={Set.univ}=> iprop(
      (bigSep Finset.univ fun s : Fin 16 => iprop(kPts (kt d) d (tileAt c s) ∗ oPts (q₀ d) d (tileAt c s)))
      ∗ ((bigSep Finset.univ fun s : Fin 16 => iprop(kPts (kt d) d (tileAt c s) ∗ oPts (blend (kt d) (q₀ d)) d (tileAt c s)))
          -∗ corePts (kt d) (blend (kt d) (q₀ d)) d c))
  iintro H; imodintro
  isplitl [H]; · iexact H
  iintro H; iexact H

end Payload

/-! ## The task -/

section Task

variable [FloatOps F] (d : Dev nD) (L : grid2.Coords)

abbrev cV (L : grid2.Coords) : Fin τ.nSC := (L 0).castLE hcore2
abbrev sV (L : grid2.Coords) : Fin τ.nSub := (L 1).castLE hsub2

omit [FloatOps F] in
theorem set_kM : (kM L).view.set = kSet L := View.set_slice_whole _ _
omit [FloatOps F] in
theorem set_oM : (oM L).view.set = oSet L := View.set_slice_whole _ _

omit [FloatOps F] in
theorem pts_kM (f : Buf (Elt F) (kLoc d)) :
    ((kM L).view.loc (V d (cV L) (sV L)) ↦[(kM L).view.set]{fullShare} f : sProp 𝕄) = kLoc d ↦[kSet L]{fullShare} f := by
  rw [set_kM]
omit [FloatOps F] in
theorem pts_oM (f : Buf (Elt F) (oLoc d)) :
    ((oM L).view.loc (V d (cV L) (sV L)) ↦[(oM L).view.set]{fullShare} f : sProp 𝕄) = oLoc d ↦[oSet L]{fullShare} f := by
  rw [set_oM]
omit [FloatOps F] in
theorem pts_bV (f : Buf (Elt F) ((V d (cV L) (sV L)).loc cc2_scratch0)) :
    ((bV).view.loc (V d (cV L) (sV L)) ↦{fullShare} f : sProp 𝕄) = (V d (cV L) (sV L)).loc cc2_scratch0 ↦{fullShare} f := rfl

/-- The two completion cells of the task. -/
abbrev inCell (d : Dev nD) (c : Fin τ.nSC) (s : Fin τ.nSub) : GSem nD τ sig := (V d c s, .dma cc2_scoped0.sem)
abbrev outCell (d : Dev nD) (c : Fin τ.nSC) (s : Fin τ.nSub) : GSem nD τ sig := (V d c s, .dma cc2_scoped1.sem)

omit [FloatOps F] in
/-- The task's semaphores at zero: the two cells and the rest. -/
theorem ownSems0_V :
    (ownSems0 (V d (cV L) (sV L)) : sProp 𝕄)
      = iprop(semVal (inCell d (cV L) (sV L)) 0 ∗ semVal (outCell d (cV L) (sV L)) 0
          ∗ bigSep (((ownCells (V d (cV L) (sV L))).erase (inCell d (cV L) (sV L))).erase (outCell d (cV L) (sV L))) fun g => semVal g 0) := by
  unfold SparseCore.Cfg.ownSems0
  rw [SparseCore.bigSep_erase' ((mem_ownCells (g := inCell d (cV L) (sV L))).mpr ⟨rfl, by
      show (SemLoc.dma cc2_scoped0.sem : SemLoc sig).isScoped .scVector = true; decide⟩),
    SparseCore.bigSep_erase' (Finset.mem_erase.mpr ⟨by simp [inCell, outCell]; decide, (mem_ownCells (g := outCell d (cV L) (sV L))).mpr ⟨rfl, by
      show (SemLoc.dma cc2_scoped1.sem : SemLoc sig).isScoped .scVector = true; decide⟩⟩)]

omit [FloatOps F] in
/-- The task's buffers: its copy buffer and the rest. -/
theorem ownBufs_V :
    (ownBufs (V d (cV L) (sV L)) : sProp 𝕄)
      = iprop((∃ f, (V d (cV L) (sV L)).loc cc2_scratch0 ↦{fullShare} f)
          ∗ bigSep ((ownRefs (τ := τ) (.scVector (cV L) (sV L))).erase ((Proc.scVector (cV L) (sV L)).devRef cc2_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (sV L))
    (b := (Proc.scVector (cV L) (sV L)).devRef cc2_scratch0) rfl)

omit [FloatOps F] in
/-- Contents whose slice on the task's columns reads what the keys' slice reads are the new queue there. -/
theorem blend_of_read (g : S128x262144.Idx → Elt F .f32)
    (hg : (oM L).view.read (Elt F) g = (kM L).view.read (Elt F) kt) : ∀ j ∈ oSet L, g j = blend kt q₀ j := by
  intro j hj
  rw [← set_oM] at hj
  obtain ⟨x, -, rfl⟩ := Finset.mem_map.mp hj
  have hx := congrFun hg x
  rw [View.read_apply, View.read_apply] at hx
  have e0 : ((oM L).view.emb x 0).val = ((kM L).view.emb x 0).val := by
    show (k2_off2 L) 0 + 1 * (x 0).val = (k2_off1 L) 0 + 1 * (x 0).val
    rw [k2_off1_eq, k2_off2_eq]
  have e1 : ((oM L).view.emb x 1).val = ((kM L).view.emb x 1).val := by
    show (k2_off2 L) 1 + 1 * (x 1).val = (k2_off1 L) 1 + 1 * (x 1).val
    rw [k2_off1_eq, k2_off2_eq]
  have hlt : ((oM L).view.emb x 1).val < 16384 := by rw [e1]; exact ((kM L).view.emb x 1).isLt
  unfold blend
  rw [dif_pos hlt]
  refine hx.trans (congrArg kt (funext fun a => ?_))
  match a with
  | 0 => exact Fin.ext e0.symm
  | 1 => exact Fin.ext e1.symm

set_option maxHeartbeats 400000 in
/-- The task of subcore `L`: the copy in, its wait, the copy out, its wait; the queue's columns end at the new queue's. -/
theorem task_run (hF : (K (F := F)).Facts) (O : CellTallies nD τ sig (HIx 1)) (W : Waits sig (HIx 1)) (hO : ∀ g, O g none = 0) :
    iprop(levAts (K (F := F)).L (K (F := F)).lev ∗ emp
        ∗ (kPts kt d L ∗ oPts q₀ d L)
        ∗ scopedBufs (V d (cV L) (sV L)) ∗ scopedSems0 (V d (cV L) (sV L)) ∗ owes (V d (cV L) (sV L)) O W)
      ⊢ wp frame (wpE (defs₀ (F := F)) 𝒱₀ (V d (cV L) (sV L)) none) Set.univ
          (cc2__sc_body L kV (Memref.isWhole_whole _) oV (Memref.isWhole_whole _) oV (Memref.isWhole_whole _)
            bV (Memref.isWhole_whole _) cc2_scoped0 cc2_scoped1)
          fun _ => iprop((kPts kt d L ∗ oPts (blend kt q₀) d L)
            ∗ scopedBufs (V d (cV L) (sV L)) ∗ scopedSems0 (V d (cV L) (sV L))
            ∗ ∃ W', ⌜∀ p ∈ W', p ∈ W ∨ p.2 = none⌝ ∗ owes (V d (cV L) (sV L)) O W') := by
  simp only [cc2__sc_body_eq_skeleton]; unfold cc2__sc_body_skel
  rw [(K (F := F)).scopedBufs_V hF d (cV L) (sV L), SparseCore.Cfg.scopedSems0_V (Val := Elt F) d (cV L) (sV L), ownSems0_V, ownBufs_V]
  iintro ⟨#Hlv, -, ⟨Hk, Ho⟩, ⟨⟨%fb, Hb⟩, Hbufs⟩, ⟨HsemA, HsemB, Hsems⟩, HO⟩
  ihave Hmw := (show levAts (K (F := F)).L (K (F := F)).lev ⊢ Transfers.MayWaits (V d (cV L) (sV L)) (default : HIx 1) O from
    (K (F := F)).mayWaits_none (thr := V d (cV L) (sV L)) hO) $$ Hlv
  ihave Hk' := (Entails.of_eq (pts_kM (F := F) d L _).symm) $$ Hk
  ihave Ho' := (Entails.of_eq (pts_oM (F := F) d L _).symm) $$ Ho
  ihave Hb' := (Entails.of_eq (pts_bV (F := F) d L _).symm) $$ Hb
  sl_exec
  sl_step
  isplitl [Hk' Ho']
  · isplitl [Hk']; · iapply (Entails.of_eq (pts_kM (F := F) d L _)); iexact Hk'
    iapply (Entails.of_eq (pointsTo_congr (blend_of_read kt q₀ L _ ((View.read_writes_whole _ _ _).trans (View.read_write_univ _ _)))))
    iapply (Entails.of_eq (pts_oM (F := F) d L _)); iexact Ho'
  isplitl [Hb' Hbufs]
  · isplitl [Hb']; · iexists _; iexact Hb'
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

omit [FloatOps F] in
/-- The waits the task recorded are waits of its own call's kind. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right .inl
  iexact HO

/-- What a vector subcore runs of the call's kernel. -/
theorem kernel_row (c : Fin τ.nSC) (s : Fin τ.nSub) :
    defs₀ (F := F) (.scVector c s) 2 ()
      = SparseCore.onTile hcore2 hsub2 (fun c s => cc2__sc_body (tileAt c s) kV (Memref.isWhole_whole _)
          oV (Memref.isWhole_whole _) oV (Memref.isWhole_whole _) bV (Memref.isWhole_whole _) cc2_scoped0 cc2_scoped1) ⟨⟩ c s := rfl

end Task

set_option maxRecDepth 16384 in
/-- Every subcore's task meets what the call asks of it. -/
theorem tileObl [FloatOps F] (kt : Dev nD → S128x16384.Idx → Elt F .f32) (q₀ : Dev nD → S128x262144.Idx → Elt F .f32)
    (hF : (K (F := F)).Facts) : (K (F := F)).TileObl (D (F := F)) 𝒱 (P kt q₀) v₀ 0 := by
  intro d c s O W hO _ _
  simp only [show (P kt q₀).ox = fun _ _ => 0 from rfl, add_zero]
  have hcs : ((K (F := F)).core 0 c).val < grid2.bound 0 ∧ ((K (F := F)).sub 0 s).val < grid2.bound 1 := ⟨c.isLt, s.isLt⟩
  change _ ⊢ wp _ _ _ (Pipeline.liftProg (defs₀ (F := F) (.scVector ((K (F := F)).core 0 c) ((K (F := F)).sub 0 s)) 2 ())) _
  refine BI.Entails.trans ?_ (Pipeline.wp_liftProg (D (F := F)) (Pipeline.defs_kernel pcfgs defs₀) 𝒱₀ _ Set.univ none _ _)
  rw [kernel_row]; simp only [SparseCore.onTile, hcs, and_self, ↓reduceDIte]
  exact (task_run (kt d) (q₀ d) d (tileAt ⟨_, hcs.1⟩ ⟨_, hcs.2⟩) hF O W hO).trans (wp_mono frame _ _ fun _ => waits_weaken)

end Cert.Queue

end
-- ==== Proof.Split.lean ====
/-
  The transposed keys are the thirty-two tasks' columns, and the queue is those columns and the ones from 16384 on: how
  the SparseCore call's operands are taken out of the two arrays, and how its results make the new queue.
-/
module

public import proofs.«01_k».proof.Proof.Tile

@[expose] public section

noncomputable section

namespace Cert.Queue

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The tasks, a SparseCore and a subcore each. -/
abbrev taskOf (t : Fin 2 × Fin 16) : grid2.Coords := tileAt t.1 t.2

theorem col0_taskOf (t : Fin 2 × Fin 16) : col0 (taskOf t) = 1024 * t.2.val + 512 * t.1.val := rfl

/-- Two tasks share no column. -/
theorem tasks_apart {t t' : Fin 2 × Fin 16} {n : ℕ} (h : col0 (taskOf t) ≤ n ∧ n < col0 (taskOf t) + 512)
    (h' : col0 (taskOf t') ≤ n ∧ n < col0 (taskOf t') + 512) : t = t' := by
  rw [col0_taskOf] at h h'
  have a := t.1.isLt; have b := t'.1.isLt
  refine Prod.ext (Fin.ext ?_) (Fin.ext ?_) <;> omega

/-- Every column below 16384 is some task's. -/
theorem task_of_col {n : ℕ} (h : n < 16384) : ∃ t : Fin 2 × Fin 16, col0 (taskOf t) ≤ n ∧ n < col0 (taskOf t) + 512 :=
  ⟨(⟨n / 512 % 2, by omega⟩, ⟨n / 1024, by omega⟩), by rw [col0_taskOf]; dsimp only; omega⟩

theorem kSets_disjoint : ∀ t ∈ (Finset.univ : Finset (Fin 2 × Fin 16)), ∀ t' ∈ (Finset.univ : Finset (Fin 2 × Fin 16)),
    t ≠ t' → Disjoint (kSet (taskOf t)) (kSet (taskOf t')) := fun t _ t' _ hne =>
  Finset.disjoint_left.mpr fun j hj hj' => hne (tasks_apart ((mem_kSet _ j).mp hj) ((mem_kSet _ j).mp hj'))

theorem oSets_disjoint : ∀ t ∈ (Finset.univ : Finset (Fin 2 × Fin 16)), ∀ t' ∈ (Finset.univ : Finset (Fin 2 × Fin 16)),
    t ≠ t' → Disjoint (oSet (taskOf t)) (oSet (taskOf t')) := fun t _ t' _ hne =>
  Finset.disjoint_left.mpr fun j hj hj' => hne (tasks_apart ((mem_oSet _ j).mp hj) ((mem_oSet _ j).mp hj'))

theorem kSets_cover : (Finset.univ : Finset (Fin 2 × Fin 16)).biUnion (fun t => kSet (taskOf t)) = Finset.univ := by
  refine Finset.eq_univ_of_forall fun j => Finset.mem_biUnion.mpr ?_
  obtain ⟨t, ht⟩ := task_of_col (j 1).isLt
  exact ⟨t, Finset.mem_univ _, (mem_kSet _ j).mpr ht⟩

/-- The queue's columns that some task writes. -/
def heads : Finset S128x262144.Idx := (Finset.univ : Finset (Fin 2 × Fin 16)).biUnion fun t => oSet (taskOf t)

theorem mem_heads {j : S128x262144.Idx} (h : (j 1).val < 16384) : j ∈ heads := by
  obtain ⟨t, ht⟩ := task_of_col h
  exact Finset.mem_biUnion.mpr ⟨t, Finset.mem_univ _, (mem_oSet _ j).mpr ht⟩

/-- The keys, held whole: held task by task. -/
theorem keys_split (d : Dev nD) (f : S128x16384.Idx → Elt F .f32) :
    (kLoc d ↦{fullShare} (f : Buf (Elt F) (kLoc d)) : sProp 𝕄)
      = bigSep Finset.univ fun c : Fin 2 => bigSep Finset.univ fun s : Fin 16 => kPts f d (tileAt c s) := by
  rw [← bigSep_univ_prod (fun t : Fin 2 × Fin 16 => kPts f d (taskOf t)),
    ← pointsTo_biUnion (Finset.univ : Finset (Fin 2 × Fin 16)) (ℓ := kLoc d) (fun t => kSet (taskOf t)) kSets_disjoint, kSets_cover]

/-- The queue's first columns: held task by task. -/
theorem heads_split (d : Dev nD) (f : S128x262144.Idx → Elt F .f32) :
    (oLoc d ↦[heads]{fullShare} (f : Buf (Elt F) (oLoc d)) : sProp 𝕄)
      = bigSep Finset.univ fun c : Fin 2 => bigSep Finset.univ fun s : Fin 16 => oPts f d (tileAt c s) := by
  rw [← bigSep_univ_prod (fun t : Fin 2 × Fin 16 => oPts f d (taskOf t)),
    ← pointsTo_biUnion (Finset.univ : Finset (Fin 2 × Fin 16)) (ℓ := oLoc d) (fun t => oSet (taskOf t)) oSets_disjoint]
  rfl

/-- What the queue holds outside the tasks' columns. -/
abbrev restPts (f : S128x262144.Idx → Elt F .f32) (d : Dev nD) : sProp 𝕄 :=
  oLoc d ↦[Finset.univ \ heads]{fullShare} (f : Buf (Elt F) (oLoc d))

/-- The cores' columns are the keys and the queue's first columns. -/
theorem cores_eq (d : Dev nD) (k : S128x16384.Idx → Elt F .f32) (f : S128x262144.Idx → Elt F .f32) :
    (bigSep Finset.univ fun c : Fin 2 => corePts k f d c : sProp 𝕄)
      = iprop((kLoc d ↦{fullShare} (k : Buf (Elt F) (kLoc d))) ∗ oLoc d ↦[heads]{fullShare} (f : Buf (Elt F) (oLoc d))) := by
  rw [keys_split, heads_split, ← bigSep_sep']
  exact bigSep_congr fun c _ => bigSep_sep' _ _ _

/-- Outside the tasks' columns the new queue is the old one. -/
theorem rest_blend (d : Dev nD) (k : S128x16384.Idx → Elt F .f32) (f : S128x262144.Idx → Elt F .f32) :
    (restPts f d : sProp 𝕄) = restPts (blend k f) d := by
  refine pointsTo_congr fun j hj => ?_
  have hn : ¬ (j 1).val < 16384 := fun h => (Finset.mem_sdiff.mp hj).2 (mem_heads h)
  show f j = blend k f j
  unfold blend; rw [dif_neg hn]

variable (kt : Dev nD → S128x16384.Idx → Elt F .f32) (q₀ : Dev nD → S128x262144.Idx → Elt F .f32)

/-- The call's operands out of the two arrays, the rest of the queue kept. -/
theorem call_enter (d : Dev nD) :
    iprop((kLoc d ↦{fullShare} (kt d : Buf (Elt F) (kLoc d))) ∗ oLoc d ↦{fullShare} (q₀ d : Buf (Elt F) (oLoc d)))
      ⊢ iprop((bigSep Finset.univ fun c : Fin ((K (F := F)).nCore 0) => (P kt q₀).st 0 d c) ∗ restPts (q₀ d) d : sProp 𝕄) := by
  show _ ⊢ iprop((bigSep Finset.univ fun c : Fin 2 => corePts (kt d) (q₀ d) d c) ∗ restPts (q₀ d) d)
  rw [cores_eq]
  iintro ⟨Hk, Ho⟩
  ihave Ho' := (pointsTo_split_subset (ℓ := oLoc d) (q := fullShare) (f := (q₀ d : Buf (Elt F) (oLoc d)))
    (Finset.subset_univ heads)).1 $$ Ho
  icases Ho' with ⟨Hh, Hr⟩
  isplitr [Hr]
  · isplitl [Hk]; · iexact Hk
    iexact Hh
  iexact Hr

/-- The two arrays from the call's results: the keys as they were, the queue the new one. -/
theorem call_exit (d : Dev nD) :
    iprop((bigSep Finset.univ fun c : Fin ((K (F := F)).nCore 0) => (P kt q₀).dn 0 d c) ∗ restPts (q₀ d) d)
      ⊢ iprop((kLoc d ↦{fullShare} (kt d : Buf (Elt F) (kLoc d)))
          ∗ oLoc d ↦{fullShare} (blend (kt d) (q₀ d) : Buf (Elt F) (oLoc d)) : sProp 𝕄) := by
  show iprop((bigSep Finset.univ fun c : Fin 2 => corePts (kt d) (blend (kt d) (q₀ d)) d c) ∗ restPts (q₀ d) d) ⊢ _
  rw [cores_eq, rest_blend d (kt d) (q₀ d)]
  iintro ⟨⟨Hk, Hh⟩, Hr⟩
  isplitl [Hk]; · iexact Hk
  iapply (pointsTo_split_subset (ℓ := oLoc d) (q := fullShare) (f := (blend (kt d) (q₀ d) : Buf (Elt F) (oLoc d)))
    (Finset.subset_univ heads)).2
  isplitl [Hh]; · iexact Hh
  iexact Hr

end Cert.Queue

end
-- ==== Proof.Blocks.lean ====
/-
  The two TensorCore pipelines, block by block. The first transposes the keys, two blocks of 8192 rows; the second copies
  the queue's blocks 2 to 31 into a second array. For each: what its body makes of a block, that the body does so at every
  point of the grid, and the array it leaves.
-/
module

public import proofs.«01_k».proof.Proof.Tile
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit
public import Idealize.ShloMosaic.Lib.Ring

@[expose] public section

set_option maxRecDepth 16384

noncomputable section

namespace Cert.Queue

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (HIx 1) (Elt F) ℕ UU ℕ

/-- The waits the TensorCore may have recorded while the pipelines run: none of a handshake. -/
def plainWaits : Set (SemLoc sig × HIx 1) := {p | p.2 = none}

/-- What the TensorCore owes from the launch to its SparseCore call. -/
abbrev dues (d : Dev nD) : CellTallies nD τ sig (HIx 1) := (K (F := F)).Otc d 0

/-- The whole of a block, as the bodies access it. -/
abbrev rowsR : Rect S8192x128 := Rect.unit (s := S8192x128) ![0, 0] S8192x128.size inb_S8192x128_S8192x128_0_0
abbrev colsR : Rect S128x8192 := Rect.unit (s := S128x8192) ![0, 0] S128x8192.size inb_S128x8192_S128x8192_0_0

/-- One whole store reaches every element of the block. -/
theorem cols_cover (p : Vec F S128x8192 .f32) (y : S128x8192.Idx) :
    ∃ pc ∈ ([⟨colsR, p⟩] : List (View.Piece (Elt F) S128x8192 .f32)), y ∈ pc.1.set :=
  View.cover_of_tiled [⟨colsR, p⟩] S128x8192.size (by rfl) y

/-- What the first body leaves of a block of rows, and the second of a block of columns. -/
def turned (x : Vec F S8192x128 .f32) : Vec F S128x8192 .f32 := View.canon [⟨colsR, k0_pay1 (View.ld x rowsR)⟩]
def kept (x : Vec F S128x8192 .f32) : Vec F S128x8192 .f32 := View.canon [⟨colsR, View.ld x colsR⟩]

set_option maxHeartbeats 1000000 in
/-- The first body, from a block of rows at `x` in its input buffer: the output buffer ends at `turned x`. -/
theorem turn_run (d : Dev nD) (E : Set ℕ) (i : grid0.Coords) (a : Memref sig .tc .vmem S8192x128 .f32) (ha : a.IsWhole)
    (b : Memref sig .tc .vmem S128x8192 .f32) (hb : b.IsWhole) (x : Vec F S8192x128 .f32) (Q : PUnit → sProp 𝕄) :
    iprop(owns (d : Thread nD τ) a fullShare x ∗ (∃ y, owns (d : Thread nD τ) b fullShare y)
        ∗ (iprop(owns (d : Thread nD τ) a fullShare x ∗ owns (d : Thread nD τ) b fullShare (turned x)) -∗ Q ⟨⟩))
      ⊢ wp frame (wpE (defs₀ (F := F)) 𝒱₀ d none) E (cc0__tr_body i a ha b hb) Q := by
  simp only [cc0__tr_body_eq_skeleton]; unfold cc0__tr_body_skel owns
  iintro ⟨⟨%f, %hf, Ha⟩, ⟨%y, %g, -, Hb⟩, HQ⟩
  subst hf
  sl_exec
  sl_step
  iapply HQ
  isplitl [Ha]
  · iexists f; isplitr; · ipureintro; rfl
    iexact Ha
  iexists _; isplitr
  swap; · iexact Hb
  ipureintro
  exact View.read_writes_eq_canon _ _ _ (cols_cover _)

set_option maxHeartbeats 1000000 in
/-- The second body, from a block of columns at `x` in its input buffer: the output buffer ends at `kept x`. -/
theorem keep_run (d : Dev nD) (E : Set ℕ) (i : grid1.Coords) (a : Memref sig .tc .vmem S128x8192 .f32) (ha : a.IsWhole)
    (b : Memref sig .tc .vmem S128x8192 .f32) (hb : b.IsWhole) (x : Vec F S128x8192 .f32) (Q : PUnit → sProp 𝕄) :
    iprop(owns (d : Thread nD τ) a fullShare x ∗ (∃ y, owns (d : Thread nD τ) b fullShare y)
        ∗ (iprop(owns (d : Thread nD τ) a fullShare x ∗ owns (d : Thread nD τ) b fullShare (kept x)) -∗ Q ⟨⟩))
      ⊢ wp frame (wpE (defs₀ (F := F)) 𝒱₀ d none) E (cc1__copy_body i a ha b hb) Q := by
  simp only [cc1__copy_body_eq_skeleton]; unfold cc1__copy_body_skel owns
  iintro ⟨⟨%f, %hf, Ha⟩, ⟨%y, %g, -, Hb⟩, HQ⟩
  subst hf
  sl_exec
  sl_step
  iapply HQ
  isplitl [Ha]
  · iexists f; isplitr; · ipureintro; rfl
    iexact Ha
  iexists _; isplitr
  swap; · iexact Hb
  ipureintro
  exact View.read_writes_eq_canon _ _ _ (cols_cover _)

/-! ## The pipelines' data, at the contents `V` the region finds -/

variable (V : (d : Dev nD) → (b : Ref sig .tc) → Buf (Elt F) ((d : Thread nD τ).loc b))

/-- What a pipeline leaves alone: the scoped buffers that are not its own, and the generator register. -/
def calm {gr W : Nat} (win : Fin W → Pipeline.WinSpec sig gr) (d : Dev nD) : sProp 𝕄 :=
  iprop(Pipeline.scopedRest (Ix := HIx 1) (Name := ℕ) (U := UU) (Lvl := ℕ) (Val := Elt F) win d ∗ ∃ r, prngReg d r)

/-- The block of window `w` at point `t`. -/
def blk0 (d : Dev nD) (w : Fin cfg0.W) (t : Fin cfg0.N) : ((cfg0.win w).xblock (cfg0.grid.coords t)).Idx → Elt F (cfg0.win w).elt :=
  ((cfg0.win w).blk t).view.read (Elt F) (V d (Pipeline.arrRef spec0 w))
def blk1 (d : Dev nD) (w : Fin cfg1.W) (t : Fin cfg1.N) : ((cfg1.win w).xblock (cfg1.grid.coords t)).Idx → Elt F (cfg1.win w).elt :=
  ((cfg1.win w).blk t).view.read (Elt F) (V d (Pipeline.arrRef spec1 w))

/-- The first pipeline: its input buffer holds the block of keys, its output buffer that block transposed; what the
    TensorCore owes stays as it is. -/
def turnDat (d : Dev nD) : Dat τ (Elt F) (HIx 1) ℕ UU ℕ cfg0 d where
  A w := V d (Pipeline.arrRef spec0 w)
  after w t := match w with
    | ⟨0, _⟩ => blk0 V d 0 t
    | ⟨1, _⟩ => turned (blk0 V d 0 t)
  Φ _ := calm spec0 d
  q _ := fullShare
  owed _ := dues (F := F) d
  recorded _ := plainWaits

/-- The second pipeline: both buffers hold the queue's block. -/
def keepDat (d : Dev nD) : Dat τ (Elt F) (HIx 1) ℕ UU ℕ cfg1 d where
  A w := V d (Pipeline.arrRef spec1 w)
  after w t := match w with
    | ⟨0, _⟩ => blk1 V d 0 t
    | ⟨1, _⟩ => kept (blk1 V d 0 t)
  Φ _ := calm spec1 d
  q _ := fullShare
  owed _ := dues (F := F) d
  recorded _ := plainWaits

theorem turnDat_A (d : Dev nD) (w : Fin cfg0.W) : (turnDat V d).A w = V d (Pipeline.arrRef spec0 w) := by dsimp only [turnDat]
theorem keepDat_A (d : Dev nD) (w : Fin cfg1.W) : (keepDat V d).A w = V d (Pipeline.arrRef spec1 w) := by dsimp only [keepDat]
theorem turn_after_in (d : Dev nD) (t : Fin cfg0.N) : (turnDat V d).after 0 t = blk0 V d 0 t := by dsimp only [turnDat]
theorem turn_after_out (d : Dev nD) (t : Fin cfg0.N) : (turnDat V d).after 1 t = turned (blk0 V d 0 t) := by dsimp only [turnDat]
theorem keep_after_in (d : Dev nD) (t : Fin cfg1.N) : (keepDat V d).after 0 t = blk1 V d 0 t := by dsimp only [keepDat]
theorem keep_after_out (d : Dev nD) (t : Fin cfg1.N) : (keepDat V d).after 1 t = kept (blk1 V d 0 t) := by dsimp only [keepDat]

/-- The input buffer holds the point's block when the body runs. -/
theorem turn_before (d : Dev nD) (t : Fin cfg0.N) (y) : (turnDat V d).before 0 t y = blk0 V d 0 t :=
  ((turnDat V d).before_in_eq_fetched 0 rfl (fun _ => rfl) (fun _ _ _ => rfl)
    (fun t => by rw [turn_after_in]; unfold Dat.blockOf blk0; rw [turnDat_A]; try rfl) t y).trans
    (by unfold Dat.fetched Dat.blockOf blk0; rw [turnDat_A]; try rfl)
theorem keep_before (d : Dev nD) (t : Fin cfg1.N) (y) : (keepDat V d).before 0 t y = blk1 V d 0 t :=
  ((keepDat V d).before_in_eq_fetched 0 rfl (fun _ => rfl) (fun _ _ _ => rfl)
    (fun t => by rw [keep_after_in]; unfold Dat.blockOf blk1; rw [keepDat_A]; try rfl) t y).trans
    (by unfold Dat.fetched Dat.blockOf blk1; rw [keepDat_A]; try rfl)

/-! ## The bodies at every point -/

theorem turn_row (t : Fin cfg0.N) : defs₀ (F := F) .tc cfg0.body (cfg0.bodyArgs t (cfg0.slots t)) = bodyAt0 t := by
  rfl
theorem keep_row (t : Fin cfg1.N) : defs₀ (F := F) .tc cfg1.body (cfg1.bodyArgs t (cfg1.slots t)) = bodyAt1 t := by
  rfl

/-- The first body at a point, between the pipeline's states before and after it. -/
theorem turn_point (d : Dev nD) (t : Fin cfg0.N) :
    iprop((turnDat V d).Φ t.castSucc ∗ (turnDat V d).owesAt none t.castSucc
        ∗ (∃ y, owns (d : Thread nD τ) (st0_0 t) fullShare ((turnDat V d).before 0 t y))
        ∗ (∃ y, owns (d : Thread nD τ) (st0_1 t) fullShare ((turnDat V d).before 1 t y)))
      ⊢ wp frame (wpE (defs₀ (F := F)) 𝒱₀ d none) Set.univ (bodyAt0 t)
          fun _ => iprop((turnDat V d).Φ t.succ ∗ (turnDat V d).owesAt none t.succ
            ∗ owns (d : Thread nD τ) (st0_0 t) fullShare ((turnDat V d).after 0 t)
            ∗ owns (d : Thread nD τ) (st0_1 t) fullShare ((turnDat V d).after 1 t)) := by
  unfold bodyAt0
  simp only [turn_before]
  rw [show (turnDat V d).Φ t.succ = (turnDat V d).Φ t.castSucc from rfl,
    show (turnDat V d).owesAt none t.succ = (turnDat V d).owesAt none t.castSucc from rfl, turn_after_in, turn_after_out]
  iintro ⟨HΦ, HO, ⟨%y0, Ha⟩, ⟨%y1, Hb⟩⟩
  iapply (turn_run d Set.univ (grid0.coords t) _ _ _ _ (blk0 V d 0 t) _)
  isplitl [Ha]; · iexact Ha
  isplitl [Hb]; · iexists _; iexact Hb
  iintro ⟨Ha, Hb⟩
  isplitl [HΦ]; · iexact HΦ
  isplitl [HO]; · iexact HO
  isplitl [Ha]; · iexact Ha
  iexact Hb

/-- The second body at a point, likewise. -/
theorem keep_point (d : Dev nD) (t : Fin cfg1.N) :
    iprop((keepDat V d).Φ t.castSucc ∗ (keepDat V d).owesAt none t.castSucc
        ∗ (∃ y, owns (d : Thread nD τ) (st1_0 t) fullShare ((keepDat V d).before 0 t y))
        ∗ (∃ y, owns (d : Thread nD τ) (st1_1 t) fullShare ((keepDat V d).before 1 t y)))
      ⊢ wp frame (wpE (defs₀ (F := F)) 𝒱₀ d none) Set.univ (bodyAt1 t)
          fun _ => iprop((keepDat V d).Φ t.succ ∗ (keepDat V d).owesAt none t.succ
            ∗ owns (d : Thread nD τ) (st1_0 t) fullShare ((keepDat V d).after 0 t)
            ∗ owns (d : Thread nD τ) (st1_1 t) fullShare ((keepDat V d).after 1 t)) := by
  unfold bodyAt1
  simp only [keep_before]
  rw [show (keepDat V d).Φ t.succ = (keepDat V d).Φ t.castSucc from rfl,
    show (keepDat V d).owesAt none t.succ = (keepDat V d).owesAt none t.castSucc from rfl, keep_after_in, keep_after_out]
  iintro ⟨HΦ, HO, ⟨%y0, Ha⟩, ⟨%y1, Hb⟩⟩
  iapply (keep_run d Set.univ (grid1.coords t) _ _ _ _ (blk1 V d 0 t) _)
  isplitl [Ha]; · iexact Ha
  isplitl [Hb]; · iexists _; iexact Hb
  iintro ⟨Ha, Hb⟩
  isplitl [HΦ]; · iexact HΦ
  isplitl [HO]; · iexact HO
  isplitl [Ha]; · iexact Ha
  iexact Hb

/-- Each pipeline's body meets what the pipeline asks of it, at every point. -/
theorem turn_body (d : Dev nD) : BodyObligation (turnDat (F := F) V d) (defs₀ (F := F)) 𝒱₀ none Set.univ := fun t => by
  rw [bigSep_W0, bigSep_W0, turn_row]
  exact triple_restated (turn_point V d t) rfl .rfl fun _ => .rfl
theorem keep_body (d : Dev nD) : BodyObligation (keepDat (F := F) V d) (defs₀ (F := F)) 𝒱₀ none Set.univ := fun t => by
  rw [bigSep_W1, bigSep_W1, keep_row]
  exact triple_restated (keep_point V d t) rfl .rfl fun _ => .rfl

/-! ## The arrays they leave -/

/-- The keys transposed. -/
def turnAll (x : S16384x128.Idx → Elt F .f32) : S128x16384.Idx → Elt F .f32 :=
  fun j => x (fun | 0 => j 1 | 1 => j 0 | ⟨_ + 2, h⟩ => absurd h (Nat.not_lt.2 (Nat.le_add_left _ _)))

/-- The queue's columns from 16384 on over what the array held. -/
def tail (x o : S128x262144.Idx → Elt F .f32) : S128x262144.Idx → Elt F .f32 :=
  fun j => if 16384 ≤ (j 1).val then x j else o j

end Cert.Queue

end
-- ==== Proof.Arrays.lean ====
/-
  The arrays the two TensorCore pipelines leave: the keys transposed, and the queue's columns from 16384 on over what the
  second array held.
-/
module

public import proofs.«01_k».proof.Proof.Blocks

@[expose] public section

set_option maxRecDepth 16384

noncomputable section

namespace Cert.Queue

open Cert.KernelIdeal Cert.KernelIdeal.Gen

open Idealize.ShloMosaic Idealize.ShloMosaic.TcCoe Idealize.ShloMosaic.Tactic
open Idealize.ShloMosaic.SparseCore.Cfg (HIx)
open Idealize.ShloMosaic.Pipeline (Dat)

variable {F : FTy → Type} [FloatOps F]
variable (V : (d : Dev nD) → (b : Ref sig .tc) → Buf (Elt F) ((d : Thread nD τ).loc b))

/-- Where the windows' blocks lie: rows and columns of the keys by the point, columns of the queue two blocks on. -/
theorem at0_in (t : Fin cfg0.N) : win0_0.index t = ![(grid0.coords t 0).val, 0] :=
  (by decide +kernel : ∀ t : Fin grid0.N, win0_0.index t = ![(grid0.coords t 0).val, 0]) t
theorem at0_out (t : Fin cfg0.N) : win0_1.index t = ![0, (grid0.coords t 0).val] :=
  (by decide +kernel : ∀ t : Fin grid0.N, win0_1.index t = ![0, (grid0.coords t 0).val]) t
theorem at1_in (t : Fin cfg1.N) : win1_0.index t = ![0, (grid1.coords t 0).val + 2] :=
  (by decide +kernel : ∀ t : Fin grid1.N, win1_0.index t = ![0, (grid1.coords t 0).val + 2]) t
theorem at1_out (t : Fin cfg1.N) : win1_1.index t = ![0, (grid1.coords t 0).val + 2] :=
  (by decide +kernel : ∀ t : Fin grid1.N, win1_1.index t = ![0, (grid1.coords t 0).val + 2]) t

theorem zero2 : (![0, 0] : Fin 2 → Nat) = fun _ => 0 := by
  funext a; match a with | 0 => rfl | 1 => rfl

/-- The first body's block, element by element: the block of keys with rows and columns exchanged. -/
theorem turned_apply (x : Vec F S8192x128 .f32) (y : S128x8192.Idx) :
    turned x y = x (fun | 0 => y 1 | 1 => y 0) := by
  unfold turned
  rw [View.canon_unit_zero zero2, View.ld_unit_zero zero2]
  unfold k0_pay1
  exact transpose_apply _ _ _ _ _ fun b => by match b with | 0 => rfl | 1 => rfl

/-- The second body's block is the block it read. -/
theorem kept_eq (x : Vec F S128x8192 .f32) : kept x = x := by
  unfold kept
  rw [View.canon_unit_zero zero2, View.ld_unit_zero zero2]

/-- After the first pipeline its second array is the keys transposed. -/
theorem turn_array (d : Dev nD) : (turnDat V d).arrAt 1 cfg0.N = turnAll (V d main_arg0) := by
  refine (turnDat V d).arrAt_eq_of_covers 1 _ (by decide +kernel) fun t _ y => ?_
  blk_simp
  rw [turn_after_out, turned_apply]
  unfold turnAll
  blk_simp [blk0]
  refine congrArg _ (funext fun a => Fin.ext ?_)
  match a with
  | 0 => show ((win0_0.blk t).view.emb _ (0 : Fin 2)).val = ((win0_1.blk t).view.emb y (1 : Fin 2)).val
         blk_simp [at0_in, at0_out]
  | 1 => show ((win0_0.blk t).view.emb _ (1 : Fin 2)).val = ((win0_1.blk t).view.emb y (0 : Fin 2)).val
         blk_simp [at0_in, at0_out]

/-- After the second, its second array holds the queue's columns from 16384 on, and its own contents before. -/
theorem keep_array (d : Dev nD) : (keepDat V d).arrAt 1 cfg1.N = tail (V d main_arg1) (V d main_v1) := by
  refine (keepDat V d).arrAt_eq_of_coversWhere 1 (V d main_arg1) (fun β => 2 ≤ β (1 : Fin 2)) (by decide +kernel)
    (fun t _ y => ?_) (fun j => ?_)
  · blk_simp
    rw [keep_after_out, kept_eq]
    blk_simp [blk1]
    refine congrArg _ (funext fun a => Fin.ext ?_)
    match a with
    | 0 => blk_simp [at1_in, at1_out]
    | 1 => blk_simp [at1_in, at1_out]
  · blk_simp [Pipeline.Window.cell_apply]; omega

end Cert.Queue

end
-- ==== Proof.Regions.lean ====
/-
  The two TensorCore pipelines as steps of the device's program: each from the unscoped buffers at one valuation to the
  same buffers at the next, what the TensorCore owes its SparseCore call riding along untouched.
-/
module

public import proofs.«01_k».proof.Proof.Arrays

@[expose] public section

set_option maxRecDepth 16384

noncomputable section

namespace Cert.Queue

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (HIx 1) (Elt F) ℕ UU ℕ

/-! ## The buffers at each step -/

/-- The buffers after the first pipeline: the keys transposed in `main_v0`. -/
def afterTurn (W : Valuation τ sig (Elt F)) : Valuation τ sig (Elt F) :=
  Function.update W (Proc.devRef .tc main_v0) (turnAll (W (Proc.devRef .tc main_arg0)))

/-- The buffers after the second: the queue's columns from 16384 on in `main_v1`. -/
def afterKeep (W : Valuation τ sig (Elt F)) : Valuation τ sig (Elt F) :=
  Function.update W (Proc.devRef .tc main_v1) (tail (W (Proc.devRef .tc main_arg1)) (W (Proc.devRef .tc main_v1)))

theorem devRef_ne {a b : Ref sig .tc} (h : a ≠ b) : (Proc.devRef .tc a : DevRef τ sig) ≠ Proc.devRef .tc b := by
  intro e; exact h (Proc.devRef_injective .tc e)

theorem afterTurn_of_ne (W : Valuation τ sig (Elt F)) {b : Ref sig .tc} (h : b ≠ main_v0) :
    afterTurn W (Proc.devRef .tc b) = W (Proc.devRef .tc b) := Function.update_of_ne (devRef_ne h) _ _
theorem afterKeep_of_ne (W : Valuation τ sig (Elt F)) {b : Ref sig .tc} (h : b ≠ main_v1) :
    afterKeep W (Proc.devRef .tc b) = W (Proc.devRef .tc b) := Function.update_of_ne (devRef_ne h) _ _
theorem afterTurn_v0 (W : Valuation τ sig (Elt F)) :
    afterTurn W (Proc.devRef .tc main_v0) = turnAll (W (Proc.devRef .tc main_arg0)) := Function.update_self _ _ _
theorem afterKeep_v1 (W : Valuation τ sig (Elt F)) :
    afterKeep W (Proc.devRef .tc main_v1) = tail (W (Proc.devRef .tc main_arg1)) (W (Proc.devRef .tc main_v1)) :=
  Function.update_self _ _ _

variable (W : Dev nD → Valuation τ sig (Elt F))

/-- The buffers before the first pipeline, between the two and after the second, at the TensorCore's references. -/
abbrev U0 : (d : Dev nD) → (b : Ref sig .tc) → Buf (Elt F) ((d : Thread nD τ).loc b) := fun d b => W d (Proc.devRef .tc b)
abbrev U1 : (d : Dev nD) → (b : Ref sig .tc) → Buf (Elt F) ((d : Thread nD τ).loc b) := fun d b => afterTurn (W d) (Proc.devRef .tc b)
abbrev U2 : (d : Dev nD) → (b : Ref sig .tc) → Buf (Elt F) ((d : Thread nD τ).loc b) :=
  fun d b => afterKeep (afterTurn (W d)) (Proc.devRef .tc b)

/-- After the first pipeline each of its arrays is at the next valuation, and no other buffer has moved. -/
theorem turn_fin (d : Dev nD) (w : Fin cfg0.W) : (turnDat (U0 W) d).arrAt w cfg0.N = U1 W d (Pipeline.arrRef spec0 w) := by
  match w with
  | ⟨0, _⟩ => exact ((turnDat (U0 W) d).arrAt_in 0 rfl _).trans ((turnDat_A (U0 W) d 0).trans
      (afterTurn_of_ne (W d) (b := main_arg0) (by decide)).symm)
  | ⟨1, _⟩ => exact (turn_array (U0 W) d).trans (afterTurn_v0 (W d)).symm
theorem turn_rest (d : Dev nD) (b : Ref sig .tc) (hb : b ∉ Finset.univ.image (Pipeline.arrRef spec0)) :
    U1 W d b = U0 W d b :=
  afterTurn_of_ne (W d) fun e => hb (e ▸ Finset.mem_image.2 ⟨1, Finset.mem_univ _, rfl⟩)

/-- The same of the second. -/
theorem keep_fin (d : Dev nD) (w : Fin cfg1.W) : (keepDat (U1 W) d).arrAt w cfg1.N = U2 W d (Pipeline.arrRef spec1 w) := by
  match w with
  | ⟨0, _⟩ => exact ((keepDat (U1 W) d).arrAt_in 0 rfl _).trans ((keepDat_A (U1 W) d 0).trans
      (afterKeep_of_ne (afterTurn (W d)) (b := main_arg1) (by decide)).symm)
  | ⟨1, _⟩ => exact (keep_array (U1 W) d).trans (afterKeep_v1 (afterTurn (W d))).symm
theorem keep_rest (d : Dev nD) (b : Ref sig .tc) (hb : b ∉ Finset.univ.image (Pipeline.arrRef spec1)) :
    U2 W d b = U1 W d b :=
  afterKeep_of_ne (afterTurn (W d)) fun e => hb (e ▸ Finset.mem_image.2 ⟨1, Finset.mem_univ _, rfl⟩)

/-! ## The pipelines' data together, and what rides along -/

/-- No pipeline has a table. -/
abbrev adm : (p : Fin 2) → (pcfgs (F := F) p).Adm := fun p => (cfgs p).toPCfg_adm

/-- Each pipeline's data at the contents it is entered with. -/
def dats : (p : Fin 2) → (d : Dev nD) → Dat τ (Elt F) (HIx 1) ℕ UU ℕ (Pipeline.pin (pcfgs (F := F)) adm p) d
  | ⟨0, _⟩ => fun d => turnDat (U0 W) d
  | ⟨1, _⟩ => fun d => keepDat (U1 W) d

/-- What the TensorCore owes, with none of its handshake waits recorded. -/
abbrev owing (d : Dev nD) : sProp 𝕄 :=
  iprop(∃ X : Waits sig (HIx 1), ⌜(↑X : Set (SemLoc sig × HIx 1)) ⊆ plainWaits⌝ ∗ owes (d : Thread nD τ) (dues (F := F) d) X)

/-- What rides beside the buffers through a pipeline: the generator register, and what is owed. -/
abbrev riding (d : Dev nD) : sProp 𝕄 := iprop((∃ r, prngReg d r) ∗ owing (F := F) d)

/-- A wait a pipeline makes is no handshake's. -/
theorem bound_plain {cfg : Pipeline.Cfg sig Λ₀} : (plainWaits ∪ cfg.waitPairs (none : HIx 1)) ⊆ plainWaits := by
  rintro p (h | h)
  · exact h
  · obtain ⟨w, s, rfl⟩ := h; rfl

/-- The TensorCore owes nothing of index `none`. -/
theorem dues_none (d : Dev nD) (g : GSem nD τ sig) : dues (F := F) d g none = 0 := by
  by_contra h
  have := (K (F := F)).lev_of_Otc_pos (Nat.pos_of_ne_zero h)
  rw [SparseCore.Cfg.lev_none] at this
  omega

set_option backward.isDefEq.respectTransparency.types false in
/-- The first pipeline as a step: from the buffers at `W` to the buffers after it. -/
def turnStep : Pipeline.RegionSeg (pcfgs (F := F)) adm (dats W) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (turn_body (U0 W) d).loose
  hwaits d := Pipeline.cellsWaits_intro (Pipeline.pin (pcfgs (F := F)) adm) (dats W) none 0 d
    fun w s t => (K (F := F)).mayWait_none _ (dues_none d)
  pre d := iprop(StableHlo.held (d : Thread nD τ) (Pipeline.ucRefs τ sig) (W d) ∗ riding (F := F) d)
  post d := iprop(StableHlo.held (d : Thread nD τ) (Pipeline.ucRefs τ sig) (afterTurn (W d)) ∗ riding (F := F) d)
  X d := iprop(∃ r, prngReg d r)
  Y d := iprop(∃ r, prngReg d r)
  Z d := Pipeline.unscopedRest (Ix := HIx 1) (Name := ℕ) (U := UU) (Lvl := ℕ) spec0 d (U0 W d)
  hentry d := by
    rw [Pipeline.ownSems0_none]
    have hsplit := Pipeline.arrays_of_unscopedBufs (p := 0) (pcfgs (F := F)) adm (dats W) launch0.win launch0.arr_whole d
      ((dats W 0 d).share_full fun _ => rfl) (U0 W d) (turnDat_A (U0 W) d)
    rw [Pipeline.unscopedBufs_held] at hsplit
    iintro ⟨⟨Hbufs, Hreg, %X, %hX, HO⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [HO]
    · unfold Pipeline.Dat.owesAt Pipeline.owesWithin
      iexists X; isplitr; · ipureintro; exact fun p hp => Or.inl (hX hp)
      iexact HO
    isplitl [Hreg]; · iexact Hreg
    iexact Hrest
  hin d := by
    rw [show (dats W 0 d).Φ 0 = calm spec0 d from rfl]; unfold calm
    iintro ⟨Hreg, -, Hr⟩
    isplitl [Hr]; · iexact Hr
    iexact Hreg
  hout d := by
    rw [Pipeline.ownSems0_none, show (dats W 0 d).Φ (Fin.last _) = calm spec0 d from rfl]; unfold calm
    iintro ⟨Hr, Hreg⟩
    isplitl [Hreg]; · iexact Hreg
    isplitr; · iempintro
    iexact Hr
  hexit d := by
    have hjoin := Pipeline.unscopedBufs_of_arrays (p := 0) (pcfgs (F := F)) adm (Ix := HIx 1) (Name := ℕ) (U := UU) (Lvl := ℕ)
      launch0.win launch0.arr_whole d (dats W) ((dats W 0 d).share_full fun _ => rfl)
      (U0 W d) (U1 W d) ((dats W 0 d).arrAt · cfg0.N) (turn_fin W d) (turn_rest W d)
    rw [Pipeline.unscopedBufs_held] at hjoin
    iintro ⟨Harr, HO, Hreg, Hrest⟩
    imodintro
    isplitl [Harr Hrest]
    · iapply hjoin; isplitl [Harr] <;> iassumption
    isplitl [Hreg]; · iexact Hreg
    unfold Pipeline.Dat.owesAt Pipeline.owesWithin
    icases HO with ⟨%X, %hX, HO⟩; iexists X; isplitr
    · ipureintro; exact hX.trans bound_plain
    iexact HO

set_option backward.isDefEq.respectTransparency.types false in
/-- The second pipeline as a step: from the buffers after the first to the buffers after both. -/
def keepStep : Pipeline.RegionSeg (pcfgs (F := F)) adm (dats W) none defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody d := (keep_body (U1 W) d).loose
  hwaits d := Pipeline.cellsWaits_intro (Pipeline.pin (pcfgs (F := F)) adm) (dats W) none 1 d
    fun w s t => (K (F := F)).mayWait_none _ (dues_none d)
  pre d := iprop(StableHlo.held (d : Thread nD τ) (Pipeline.ucRefs τ sig) (afterTurn (W d)) ∗ riding (F := F) d)
  post d := iprop(StableHlo.held (d : Thread nD τ) (Pipeline.ucRefs τ sig) (afterKeep (afterTurn (W d))) ∗ riding (F := F) d)
  X d := iprop(∃ r, prngReg d r)
  Y d := iprop(∃ r, prngReg d r)
  Z d := Pipeline.unscopedRest (Ix := HIx 1) (Name := ℕ) (U := UU) (Lvl := ℕ) spec1 d (U1 W d)
  hentry d := by
    rw [Pipeline.ownSems0_none]
    have hsplit := Pipeline.arrays_of_unscopedBufs (p := 1) (pcfgs (F := F)) adm (dats W) launch1.win launch1.arr_whole d
      ((dats W 1 d).share_full fun _ => rfl) (U1 W d) (keepDat_A (U1 W) d)
    rw [Pipeline.unscopedBufs_held] at hsplit
    iintro ⟨⟨Hbufs, Hreg, %X, %hX, HO⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [HO]
    · unfold Pipeline.Dat.owesAt Pipeline.owesWithin
      iexists X; isplitr; · ipureintro; exact fun p hp => Or.inl (hX hp)
      iexact HO
    isplitl [Hreg]; · iexact Hreg
    iexact Hrest
  hin d := by
    rw [show (dats W 1 d).Φ 0 = calm spec1 d from rfl]; unfold calm
    iintro ⟨Hreg, -, Hr⟩
    isplitl [Hr]; · iexact Hr
    iexact Hreg
  hout d := by
    rw [Pipeline.ownSems0_none, show (dats W 1 d).Φ (Fin.last _) = calm spec1 d from rfl]; unfold calm
    iintro ⟨Hr, Hreg⟩
    isplitl [Hreg]; · iexact Hreg
    isplitr; · iempintro
    iexact Hr
  hexit d := by
    have hjoin := Pipeline.unscopedBufs_of_arrays (p := 1) (pcfgs (F := F)) adm (Ix := HIx 1) (Name := ℕ) (U := UU) (Lvl := ℕ)
      launch1.win launch1.arr_whole d (dats W) ((dats W 1 d).share_full fun _ => rfl)
      (U1 W d) (U2 W d) ((dats W 1 d).arrAt · cfg1.N) (keep_fin W d) (keep_rest W d)
    rw [Pipeline.unscopedBufs_held] at hjoin
    iintro ⟨Harr, HO, Hreg, Hrest⟩
    imodintro
    isplitl [Harr Hrest]
    · iapply hjoin; isplitl [Harr] <;> iassumption
    isplitl [Hreg]; · iexact Hreg
    unfold Pipeline.Dat.owesAt Pipeline.owesWithin
    icases HO with ⟨%X, %hX, HO⟩; iexists X; isplitr
    · ipureintro; exact hX.trans bound_plain
    iexact HO

end Cert.Queue

end
-- ==== Proof.Steps.lean ====
/-
  The device's program, @main, on its TensorCore: its two pipelines, the copy into the result's buffer, the SparseCore
  call and the host operations after it, run from any launch memory. What every buffer outside the kernels' scopes holds
  at the end, and that every semaphore is zero.
-/
module

public import proofs.«01_k».proof.Proof.Split
public import proofs.«01_k».proof.Proof.Regions

@[expose] public section

set_option maxRecDepth 16384

noncomputable section

namespace Cert.Queue

open Cert.KernelIdeal Cert.KernelIdeal.Gen

open Idealize.ShloMosaic Idealize.ShloMosaic.TcCoe Idealize.ShloMosaic.Tactic
open Idealize.ShloMosaic.StableHlo
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The program -/

/-- The copy of the second pipeline's result into the buffer the SparseCore kernel updates. -/
abbrev copyOp : HloOp τ sig (Elt F) := StableHlo.unary main_v1 main_v2 id

/-- The host operations after the SparseCore call: the pointer moved by 16384, modulo the queue's length. -/
abbrev lastOps : List (HloOp τ sig (Elt F)) :=
  [ StableHlo.nullary main_c (constantI S_ 32 16384#32),
    StableHlo.unary main_c main_v3 (broadcastInDim S1 ![] bcast_S_S1 : (⟨S_, .i32⟩ : BufTy).Contents (Elt F) → (⟨S1, .i32⟩ : BufTy).Contents (Elt F)),
    StableHlo.binary main_arg2 main_v3 main_v4 (addi : (⟨S1, .i32⟩ : BufTy).Contents (Elt F) → (⟨S1, .i32⟩ : BufTy).Contents (Elt F) → (⟨S1, .i32⟩ : BufTy).Contents (Elt F)),
    StableHlo.nullary main_c_0 (constantI S_ 32 262144#32),
    TRef.unary (TRef.of (T := ⟨S_, .i32⟩) main_c_0) (TRef.of (T := ⟨S_, .i32⟩) main_call0_v0) id,
    TRef.nullary (TRef.of (T := ⟨S_, .i32⟩) main_call0_c) (constantI S_ 32 0#32),
    TRef.binary (TRef.of (T := ⟨S_, .i32⟩) main_call0_v0) (TRef.of (T := ⟨S_, .i32⟩) main_call0_c) (TRef.of (T := ⟨S_, .i1⟩) main_call0_v1) (cmpi .eq),
    TRef.nullary (TRef.of (T := ⟨S_, .i32⟩) main_call0_c_0) (constantI S_ 32 1#32),
    TRef.ternary (TRef.of (T := ⟨S_, .i1⟩) main_call0_v1) (TRef.of (T := ⟨S_, .i32⟩) main_call0_c_0) (TRef.of (T := ⟨S_, .i32⟩) main_call0_v0) (TRef.of (T := ⟨S_, .i32⟩) main_call0_v2) select,
    TRef.unary (TRef.of (T := ⟨S_, .i32⟩) main_call0_v2) (TRef.of (T := ⟨S1, .i32⟩) main_call0_v3) (broadcastInDim S1 ![] bcast_S_S1),
    TRef.binary (TRef.of (T := ⟨S1, .i32⟩) main_v4) (TRef.of (T := ⟨S1, .i32⟩) main_call0_v3) (TRef.of (T := ⟨S1, .i32⟩) main_call0_v4) Host.remsi,
    TRef.nullary (TRef.of (T := ⟨S_, .i32⟩) main_call0_c_1) (constantI S_ 32 0#32),
    TRef.unary (TRef.of (T := ⟨S_, .i32⟩) main_call0_c_1) (TRef.of (T := ⟨S1, .i32⟩) main_call0_v5) (broadcastInDim S1 ![] bcast_S_S1),
    TRef.binary (TRef.of (T := ⟨S1, .i32⟩) main_call0_v4) (TRef.of (T := ⟨S1, .i32⟩) main_call0_v5) (TRef.of (T := ⟨S1, .i1⟩) main_call0_v6) (cmpi .ne),
    TRef.nullary (TRef.of (T := ⟨S_, .i32⟩) main_call0_c_2) (constantI S_ 32 0#32),
    TRef.unary (TRef.of (T := ⟨S_, .i32⟩) main_call0_c_2) (TRef.of (T := ⟨S1, .i32⟩) main_call0_v7) (broadcastInDim S1 ![] bcast_S_S1),
    TRef.binary (TRef.of (T := ⟨S1, .i32⟩) main_call0_v4) (TRef.of (T := ⟨S1, .i32⟩) main_call0_v7) (TRef.of (T := ⟨S1, .i1⟩) main_call0_v8) (cmpi .slt),
    TRef.nullary (TRef.of (T := ⟨S_, .i32⟩) main_call0_c_3) (constantI S_ 32 0#32),
    TRef.binary (TRef.of (T := ⟨S_, .i32⟩) main_call0_v2) (TRef.of (T := ⟨S_, .i32⟩) main_call0_c_3) (TRef.of (T := ⟨S_, .i1⟩) main_call0_v9) (cmpi .slt),
    TRef.unary (TRef.of (T := ⟨S_, .i1⟩) main_call0_v9) (TRef.of (T := ⟨S1, .i1⟩) main_call0_v10) (broadcastInDim S1 ![] bcast_S_S1),
    TRef.binary (TRef.of (T := ⟨S1, .i1⟩) main_call0_v8) (TRef.of (T := ⟨S1, .i1⟩) main_call0_v10) (TRef.of (T := ⟨S1, .i1⟩) main_call0_v11) (cmpi .ne),
    TRef.binary (TRef.of (T := ⟨S1, .i1⟩) main_call0_v11) (TRef.of (T := ⟨S1, .i1⟩) main_call0_v6) (TRef.of (T := ⟨S1, .i1⟩) main_call0_v12) andi,
    TRef.unary (TRef.of (T := ⟨S_, .i32⟩) main_call0_v2) (TRef.of (T := ⟨S1, .i32⟩) main_call0_v13) (broadcastInDim S1 ![] bcast_S_S1),
    TRef.binary (TRef.of (T := ⟨S1, .i32⟩) main_call0_v4) (TRef.of (T := ⟨S1, .i32⟩) main_call0_v13) (TRef.of (T := ⟨S1, .i32⟩) main_call0_v14) addi,
    TRef.ternary (TRef.of (T := ⟨S1, .i1⟩) main_call0_v12) (TRef.of (T := ⟨S1, .i32⟩) main_call0_v14) (TRef.of (T := ⟨S1, .i32⟩) main_call0_v4) (TRef.of (T := ⟨S1, .i32⟩) main_v5) select ]

set_option maxHeartbeats 4000000 in
/-- @main: the two pipelines, the copy, the SparseCore call, the remaining host operations. -/
theorem main_eq (d : Dev nD) : main (F := F) d
    = (do Prog.lift (.customCall (SparseCore.inner (Pipeline.entry 0)) ())
          Prog.lift (.customCall (SparseCore.inner (Pipeline.entry 1)) ())
          hlo rfl copyOp (fun _ => .ret ⟨⟩)
          sc.run d 0
          seq lastOps >>= fun _ => pure ⟨⟩) := rfl

theorem lastOps_sub : (lastOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩

set_option maxHeartbeats 4000000 in
theorem lastOps_fresh : ∀ op ∈ (lastOps : List (HloOp τ sig (Elt F))), op.fresh = ∅ := by
  intro op h
  simp only [lastOps, List.mem_cons, List.not_mem_nil, or_false] at h
  rcases h with rfl | rfl | rfl | rfl | rfl | rfl | rfl | rfl | rfl | rfl | rfl | rfl | rfl | rfl | rfl | rfl | rfl | rfl | rfl | rfl | rfl | rfl | rfl | rfl | rfl <;> rfl

/-! ## The two pipelines, called from @main -/

/-- A sum over the two pipelines. -/
theorem both (f : Fin 2 → sProp 𝕄) : bigSep Finset.univ f = iprop(f 0 ∗ f 1) := by
  rw [show (Finset.univ : Finset (Fin 2)) = {0, 1} by decide, SparseCore.bigSep_insert' (by decide), bigSep_singleton]

/-- What the TensorCore carries of the SparseCore call's protocol holds what it owes; the rest waits for it. -/
theorem open_call (d : Dev nD) :
    ((K (F := F)).tcSt EH d 0 : sProp 𝕄) ⊢ iprop(owing d ∗ (owing d -∗ (K (F := F)).tcSt EH d 0)) := by
  unfold SparseCore.Cfg.tcSt owing dues
  iintro ⟨⟨%X, %hX, HO⟩, Hrest⟩
  isplitl [HO]
  · iexists X
    isplitr [HO]
    · ipureintro
      intro p hp
      have h := hX p hp
      match hq : p.2 with
      | none => exact hq
      | some q =>
        rw [hq] at h
        have := (K (F := F)).lev_some_pos ((SparseCore.T d), p.1) q
        exact absurd h (Nat.not_le.mpr this)
    · iexact HO
  · iintro ⟨%Y, %hY, HO⟩
    isplitl [HO]
    · iexists Y
      isplitr [HO]
      · ipureintro
        intro p hp
        have h : p.2 = none := hY hp
        rw [h, (K (F := F)).lev_none]
        exact Nat.zero_le _
      · iexact HO
    · iexact Hrest

section Calls

variable [∀ e, Nonempty (Elt F e)] (W : Dev nD → Valuation τ sig (Elt F))

set_option backward.isDefEq.respectTransparency.types false in
/-- The first pipeline's call, in the pipelines' own program. -/
theorem turn_inner (d : Dev nD) (Q : PUnit → sProp 𝕄) :
    iprop((iprop(boundary (d.tc : Thread nD τ) ∗ (turnStep W).post d) -∗ Q ⟨⟩)
        ∗ boundary (d.tc : Thread nD τ) ∗ (turnStep W).pre d ∗ levAts (K (F := F)).L (K (F := F)).lev
        ∗ Pipeline.cellsGhost cfgs EP 0 d ∗ Pipeline.toksInit cfgs EP 0 d)
      ⊢ wp frame (wpE D 𝒱 (d.tc : Thread nD τ) none) Set.univ (.op (.customCall (Pipeline.entry 0) ()) fun x => .ret x) Q := by
  have h1 : Function.Injective (Pipeline.cellOf (nD := nD) (τ := τ) (Pipeline.pin (pcfgs (F := F)) adm)) := cellOf_inj
  have h := Pipeline.RegionSeg.wp pcfgs adm (dats W) none h1 EP defs₀ 𝒱₀ (K (F := F)).L (K (F := F)).lev
    (turnStep W) d none (fun u hu => nomatch hu) (fun x => .ret x) Q
  refine BIBase.Entails.trans ?_ h
  iintro ⟨Hk, Hb, Hpre, #Hl, Hc, Ht⟩
  isplitl [Hk]
  · iintro H
    rw [wp_ret]
    imodintro
    iapply Hk $$ H
  isplitl [Hb]; · iexact Hb
  isplitl [Hpre]; · iexact Hpre
  isplitr; · iexact Hl
  isplitl [Hc]; · iexact Hc
  iexact Ht

/-- The first pipeline's call, in @main. -/
theorem turn_call (d : Dev nD) (Q : PUnit → sProp 𝕄) :
    iprop((iprop(boundary (SparseCore.T d) ∗ (held (SparseCore.T d) (Pipeline.ucRefs τ sig) (afterTurn (W d)) ∗ riding d)) -∗ Q ⟨⟩)
        ∗ boundary (SparseCore.T d) ∗ (held (SparseCore.T d) (Pipeline.ucRefs τ sig) (W d) ∗ riding d)
        ∗ levAts (K (F := F)).L (K (F := F)).lev
        ∗ Pipeline.cellsGhost cfgs EP 0 d ∗ Pipeline.toksInit cfgs EP 0 d)
      ⊢ wp frame (wpE ((K (F := F)).defs D) 𝒱 (SparseCore.T d) none) Set.univ
          (Prog.lift (.customCall (SparseCore.inner (Pipeline.entry 0)) ())) Q :=
  BIBase.Entails.trans (turn_inner W d Q) ((K (F := F)).wp_liftProg D 𝒱 (SparseCore.T d) Set.univ none
    (.op (.customCall (Pipeline.entry 0) ()) fun x => .ret x) Q)

set_option backward.isDefEq.respectTransparency.types false in
/-- The second pipeline's call, in the pipelines' own program. -/
theorem keep_inner (d : Dev nD) (Q : PUnit → sProp 𝕄) :
    iprop((iprop(boundary (d.tc : Thread nD τ) ∗ (keepStep W).post d) -∗ Q ⟨⟩)
        ∗ boundary (d.tc : Thread nD τ) ∗ (keepStep W).pre d ∗ levAts (K (F := F)).L (K (F := F)).lev
        ∗ Pipeline.cellsGhost cfgs EP 1 d ∗ Pipeline.toksInit cfgs EP 1 d)
      ⊢ wp frame (wpE D 𝒱 (d.tc : Thread nD τ) none) Set.univ (.op (.customCall (Pipeline.entry 1) ()) fun x => .ret x) Q := by
  have h1 : Function.Injective (Pipeline.cellOf (nD := nD) (τ := τ) (Pipeline.pin (pcfgs (F := F)) adm)) := cellOf_inj
  have h := Pipeline.RegionSeg.wp pcfgs adm (dats W) none h1 EP defs₀ 𝒱₀ (K (F := F)).L (K (F := F)).lev
    (keepStep W) d none (fun u hu => nomatch hu) (fun x => .ret x) Q
  refine BIBase.Entails.trans ?_ h
  iintro ⟨Hk, Hb, Hpre, #Hl, Hc, Ht⟩
  isplitl [Hk]
  · iintro H
    rw [wp_ret]
    imodintro
    iapply Hk $$ H
  isplitl [Hb]; · iexact Hb
  isplitl [Hpre]; · iexact Hpre
  isplitr; · iexact Hl
  isplitl [Hc]; · iexact Hc
  iexact Ht

/-- The second pipeline's call, in @main. -/
theorem keep_call (d : Dev nD) (Q : PUnit → sProp 𝕄) :
    iprop((iprop(boundary (SparseCore.T d) ∗ (held (SparseCore.T d) (Pipeline.ucRefs τ sig) (afterKeep (afterTurn (W d))) ∗ riding d)) -∗ Q ⟨⟩)
        ∗ boundary (SparseCore.T d) ∗ (held (SparseCore.T d) (Pipeline.ucRefs τ sig) (afterTurn (W d)) ∗ riding d)
        ∗ levAts (K (F := F)).L (K (F := F)).lev
        ∗ Pipeline.cellsGhost cfgs EP 1 d ∗ Pipeline.toksInit cfgs EP 1 d)
      ⊢ wp frame (wpE ((K (F := F)).defs D) 𝒱 (SparseCore.T d) none) Set.univ
          (Prog.lift (.customCall (SparseCore.inner (Pipeline.entry 1)) ())) Q :=
  BIBase.Entails.trans (keep_inner W d Q) ((K (F := F)).wp_liftProg D 𝒱 (SparseCore.T d) Set.univ none
    (.op (.customCall (Pipeline.entry 1) ()) fun x => .ret x) Q)

end Calls

/-! ## The SparseCore call's two buffers, out of the unscoped ones and back -/

/-- The buffers after the SparseCore call: the turned keys written over the queue's first columns. -/
def afterCall (V : Valuation τ sig (Elt F)) : Valuation τ sig (Elt F) :=
  Function.update V (Proc.devRef .tc main_v2) (blend (V (Proc.devRef .tc main_v0)) (V (Proc.devRef .tc main_v2)))

theorem afterCall_v2 (V : Valuation τ sig (Elt F)) : afterCall V (Proc.devRef .tc main_v2)
    = blend (V (Proc.devRef .tc main_v0)) (V (Proc.devRef .tc main_v2)) := Function.update_self ..

theorem afterCall_of_ne (V : Valuation τ sig (Elt F)) {b : Ref sig .tc} (h : b ≠ main_v2) :
    afterCall V (Proc.devRef .tc b) = V (Proc.devRef .tc b) := Function.update_of_ne (devRef_ne h) ..

/-- The call's two buffers. -/
abbrev callRefs : Finset (DevRef τ sig) := {Proc.devRef .tc main_v0, Proc.devRef .tc main_v2}

theorem mem_uc {b : Ref sig .tc} (h : ¬ b.isScoped) : (Proc.devRef .tc b : DevRef τ sig) ∈ Pipeline.ucRefs τ sig :=
  Finset.mem_filter.mpr ⟨StableHlo.devRef_mem_tcRefs b, h⟩

theorem callRefs_sub : callRefs ⊆ Pipeline.ucRefs τ sig := by
  intro b hb
  rcases Finset.mem_insert.mp hb with rfl | h
  · exact mem_uc (by decide)
  · rw [Finset.mem_singleton.mp h]; exact mem_uc (by decide)

/-- The unscoped buffers are the call's two and the others. -/
theorem held_call (d : Dev nD) (V : Valuation τ sig (Elt F)) :
    (held (SparseCore.T d) (Pipeline.ucRefs τ sig) V : sProp 𝕄)
      = iprop(((kLoc d ↦{fullShare} (V (Proc.devRef .tc main_v0) : Buf (Elt F) (kLoc d)))
          ∗ (oLoc d ↦{fullShare} (V (Proc.devRef .tc main_v2) : Buf (Elt F) (oLoc d))))
        ∗ held (SparseCore.T d) (Pipeline.ucRefs τ sig \ callRefs) V) := by
  rw [StableHlo.held_sub_split (SparseCore.T d) callRefs_sub V]
  congr 1
  unfold held
  rw [SparseCore.bigSep_insert' (by simpa using devRef_ne (by decide)), bigSep_singleton]

/-- The others, read at the buffers after the call. -/
theorem held_others (d : Dev nD) (V : Valuation τ sig (Elt F)) :
    (held (SparseCore.T d) (Pipeline.ucRefs τ sig \ callRefs) V : sProp 𝕄)
      = held (SparseCore.T d) (Pipeline.ucRefs τ sig \ callRefs) (afterCall V) := by
  refine StableHlo.held_congr _ fun b hb => (Function.update_of_ne (fun h => ?_) ..).symm
  exact (Finset.mem_sdiff.mp hb).2 (by rw [h]; simp)

end Cert.Queue

end
-- ==== Proof.Main.lean ====
/-
  The device's program run: from any launch memory it ends with every buffer outside the kernels' scopes at a known
  valuation and every semaphore at zero.
-/
module

public import proofs.«01_k».proof.Proof.Steps

@[expose] public section

set_option maxRecDepth 16384

noncomputable section

namespace Cert.Queue

open Cert.KernelIdeal Cert.KernelIdeal.Gen

open Idealize.ShloMosaic Idealize.ShloMosaic.TcCoe Idealize.ShloMosaic.Tactic
open Idealize.ShloMosaic.StableHlo
open Idealize.ShloMosaic.Rounds
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers through the program -/

/-- The buffers at launch. -/
def atLaunch (d : Dev nD) : Valuation τ sig (Elt F) := fun b => m (d, b)

/-- The buffers before the SparseCore call: the keys turned, the queue's later columns kept, and copied. -/
def beforeCall (d : Dev nD) : Valuation τ sig (Elt F) := copyOp.result (afterKeep (afterTurn (atLaunch m d)))

/-- The buffers at the end. -/
def atEnd (d : Dev nD) : Valuation τ sig (Elt F) := StableHlo.after lastOps (afterCall (beforeCall m d))

/-- The turned keys the SparseCore call reads. -/
def callKeys (d : Dev nD) : S128x16384.Idx → Elt F .f32 := beforeCall m d (Proc.devRef .tc main_v0)

/-- The queue the SparseCore call finds. -/
def callQueue (d : Dev nD) : S128x262144.Idx → Elt F .f32 := beforeCall m d (Proc.devRef .tc main_v2)

/-! ## What the launch hands out -/

/-- The pipelines' share of the ghost state, on device `d`. -/
abbrev G (d : Dev nD) : sProp 𝕄 :=
  iprop((bigSep Finset.univ fun p => Pipeline.cellsGhost cfgs EP p d) ∗ (bigSep Finset.univ fun p => Pipeline.toksInit cfgs EP p d))

/-- The ghost state at launch: the SparseCore call's and the pipelines'. -/
def u₀ : UU := (initOf (K (F := F)).hsCells (K (F := F)).hsToks,
  (initOf (Pipeline.cells cfgs cellOf_inj) (Pipeline.launchToks cfgs cellOf_inj), (1 : Counters)))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (callKeys m) (callQueue m)).x q thr) := by
  unfold u₀
  iintro Hu
  ihave H := (ownU_pair (initOf (K (F := F)).hsCells (K (F := F)).hsToks) _) $$ Hu
  icases H with ⟨HH, HR⟩
  ihave H := (own_pair_emb embR (initOf (Pipeline.cells cfgs cellOf_inj) (Pipeline.launchToks cfgs cellOf_inj)) (1 : Counters)) $$ HR
  icases H with ⟨HP, -⟩
  ihave HP' : BI.own (EP (initOf (Pipeline.cells cfgs cellOf_inj) (Pipeline.launchToks cfgs cellOf_inj))) $$ [HP]
  · iexact HP
  imod (Pipeline.fund_ghost cfgs EP cellOf_inj) $$ HP' with ⟨HC, HT⟩
  imodintro
  isplitl [HH]; · iexact HH
  isplitl [HC HT]
  · unfold G
    rw [show (bigSep Finset.univ fun d : Dev nD => iprop((bigSep Finset.univ fun p => Pipeline.cellsGhost cfgs EP p d)
        ∗ (bigSep Finset.univ fun p => Pipeline.toksInit cfgs EP p d)) : sProp 𝕄) = iprop(_ ∗ _) from bigSep_sep ..]
    isplitl [HC]; · iexact HC
    iexact HT
  rw [show (bigSep Finset.univ fun thr : Thread nD τ => bigSep Finset.univ fun q : Fin 1 => (P (callKeys m) (callQueue m)).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## @main -/

/-- What the TensorCore holds at the end. -/
abbrev FIN (d : Dev nD) : sProp 𝕄 := held (SparseCore.T d) (Pipeline.ucRefs τ sig) (atEnd m d)

section Main

variable [∀ e, Nonempty (Elt F e)]

/-- A straight line of host operations run to its end, with no program after it. -/
theorem run_line (d : Dev nD) (ops : List (HloOp τ sig (Elt F))) (hs : ∀ op ∈ ops, op.bufs ⊆ Pipeline.ucRefs τ sig)
    (hf : ∀ op ∈ ops, op.fresh = ∅) (V : Valuation τ sig (Elt F)) (Q : PUnit → sProp 𝕄) :
    iprop((boundary (SparseCore.T d) ∗ held (SparseCore.T d) (Pipeline.ucRefs τ sig) V)
        ∗ ((boundary (SparseCore.T d) ∗ held (SparseCore.T d) (Pipeline.ucRefs τ sig) (StableHlo.after ops V)) -∗ Q ⟨⟩))
      ⊢ wp frame (wpE ((K (F := F)).defs D) 𝒱 (SparseCore.T d) none) Set.univ (seq ops) Q := by
  rw [show (seq ops : Prog (TpuEff nD τ sig (Elt F) _ .tc) PUnit) = (seq ops >>= fun _ => Pure.pure ⟨⟩) from (bind_pure (seq ops)).symm]
  iintro ⟨H, Hk⟩
  iapply (StableHlo.wp_seq 𝒱 none Set.univ d (Pipeline.ucRefs τ sig) (fun _ => Pure.pure ⟨⟩) ops hs hf V) $$ H
  iintro H
  rw [wp_pure]; imodintro
  iapply Hk $$ H

/-- @main on device `d`, from the launch's buffers to the end's. -/
theorem hmain (κ : GSem nD τ sig → ℕ) (d : Dev nD) :
    iprop((K (F := F)).ctx EH (P (callKeys m) (callQueue m)) κ ∗ (K (F := F)).tcSt EH d 0 ∗ (K (F := F)).tcRes m ρ d ∗ G d)
      ⊢ wp frame (wpE ((K (F := F)).defs D) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [main_eq, both, both, show unscopedBufs d (fun b => m ((SparseCore.T d).loc b)) = held (SparseCore.T d) (Pipeline.ucRefs τ sig) (atLaunch m d) from Pipeline.unscopedBufs_held d (atLaunch m d)]
  simp only [wp_bind]
  iintro ⟨#Hctx, Hst, ⟨Hb, Hheld, Hts, Hr⟩, ⟨Hc0, Hc1⟩, Ht0, Ht1⟩
  ihave #Hl := ((K (F := F)).ctx_levAts (EH := EH) (P := P (callKeys m) (callQueue m)) κ) $$ Hctx
  ihave H := (open_call (F := F) d) $$ Hst
  icases H with ⟨HO, Hback⟩
  iapply (turn_call (atLaunch m) d _)
  isplitr [Hb Hheld HO Hr Hc0 Ht0]
  swap
  · isplitl [Hb]; · iexact Hb
    isplitl [Hheld HO Hr]
    · isplitl [Hheld]; · iexact Hheld
      isplitl [Hr]; · iexists (ρ d); iexact Hr
      iexact HO
    isplitr; · iexact Hl
    isplitl [Hc0]; · iexact Hc0
    iexact Ht0
  iintro ⟨Hb, Hheld, Hride⟩
  iapply (keep_call (atLaunch m) d _)
  isplitr [Hb Hheld Hride Hc1 Ht1]
  swap
  · isplitl [Hb]; · iexact Hb
    isplitl [Hheld Hride]
    · isplitl [Hheld]; · iexact Hheld
      iexact Hride
    isplitr; · iexact Hl
    isplitl [Hc1]; · iexact Hc1
    iexact Ht1
  iintro ⟨Hb, Hheld, -, HO⟩
  ihave Hst := Hback $$ HO
  iapply (wp_hlo_within 𝒱 (SparseCore.T d) none Set.univ (op := copyOp) (S := Pipeline.ucRefs τ sig)
    (Pipeline.sub_ucRefs copyOp (StableHlo.unary_bufs_sub ..)) (V := afterKeep (afterTurn (atLaunch m d)))) $$ [Hb Hheld]
  · isplitl [Hb] <;> iassumption
  iintro ⟨Hb, Hheld⟩
  rw [wp_ret]; imodintro
  ihave Hheld : held (SparseCore.T d) (Pipeline.ucRefs τ sig) (beforeCall m d) $$ [Hheld]
  · iexact Hheld
  ihave Hheld := (Entails.of_eq (held_call (F := F) d (beforeCall m d))) $$ Hheld
  icases Hheld with ⟨Hcall, Hoth⟩
  ihave Hcall : iprop((kLoc d ↦{fullShare} (callKeys m d : Buf (Elt F) (kLoc d))) ∗ (oLoc d ↦{fullShare} (callQueue m d : Buf (Elt F) (oLoc d)))) $$ [Hcall]
  · iexact Hcall
  ihave Hcall := (call_enter (F := F) (callKeys m) (callQueue m) d) $$ Hcall
  icases Hcall with ⟨Hin, Hrest⟩
  iapply ((K (F := F)).wp_run D 𝒱 (EH := EH) (P := P (callKeys m) (callQueue m)) κ d 0) $$ [Hst Hin Hb Hts Hoth Hrest]
  isplitr; · iexact Hctx
  isplitl [Hst]; · iexact Hst
  isplitl [Hin]; · iexact Hin
  iintro ⟨Hst, Hdn⟩
  ihave Hcall := (call_exit (F := F) (callKeys m) (callQueue m) d) $$ [Hdn Hrest]
  · isplitl [Hdn] <;> iassumption
  icases Hcall with ⟨Hk, Ho⟩
  ihave Hheld : held (SparseCore.T d) (Pipeline.ucRefs τ sig) (afterCall (beforeCall m d)) $$ [Hk Ho Hoth]
  · rw [held_call, ← held_others, afterCall_v2, afterCall_of_ne _ (b := main_v0) (by decide)]
    isplitl [Hk Ho]
    · isplitl [Hk]; · iexact Hk
      iexact Ho
    iexact Hoth
  iapply (run_line d lastOps
    (fun op h => Pipeline.sub_ucRefs op ((List.forall_iff_forall_mem.mp lastOps_sub) op h)) lastOps_fresh (afterCall (beforeCall m d)) _)
  isplitl [Hb Hheld]
  · isplitl [Hb] <;> iassumption
  iintro ⟨Hb, Hheld⟩
  rw [wp_pure]; imodintro
  isplitl [Hst]; · iexact Hst
  isplitl [Hheld]; · iexact Hheld
  isplitl [Hb] <;> iassumption

/-- What the end's resources say of the memory. -/
def fq (d : Dev nD) (s' : Phys nD τ sig (Elt F)) : Prop :=
  ∀ b ∈ Pipeline.ucRefs τ sig, s'.mem.mem (d, b) = atEnd m d b

theorem hfin (d : Dev nD) (s' : Phys nD τ sig (Elt F)) : iprop(FIN m d ∗ SI s') ⊢ (⌜fq m d s'⌝ : sProp 𝕄) := by
  unfold FIN StableHlo.held
  refine BIBase.Entails.trans (Idealize.ShloMosaic.pointsTo_read_all (Pipeline.ucRefs τ sig) (fun b => (d, b)) (atEnd m d) s') ?_
  iintro ⟨%h, -⟩
  ipureintro
  exact h

/-- The run's postcondition: the end's buffers, and every semaphore zero. -/
def QC : PUnit × MemSt nD τ sig (Elt F) → Prop := fun r =>
  (∀ d : Dev nD, ∀ b ∈ Pipeline.ucRefs τ sig, r.2.mem (d, b) = atEnd m d b) ∧ r.2.sem = fun _ => 0

/-- The whole program run from any launch memory. -/
theorem run_main : θ_run (defs (F := F)) (threads (F := F)) ⟨m, fun _ => 0, ρ⟩ (QC m) :=
  SparseCore.Cfg.θ_run_sc_quiescent (K := K (F := F)) (D := D) (𝒱 := 𝒱) (EH := EH) (P := P (callKeys m) (callQueue m)) (A := ∅) scFacts v₀
    (fun q hq => match q with | 0 => nomatch hq)
    (fun q _ => match q with | 0 => tileObl (callKeys m) (callQueue m) scFacts)
    (fun q _ => match q with | 0 => SparseCore.Cfg.VecSplit.of_plain (vecSplit (callKeys m) (callQueue m)))
    m ρ main (fun d => G d) (FIN m) (u₀ (F := F)) (sep_elim_left.trans (hu₀ m)) (hmain m ρ) (fq m) (hfin m) (QC m) (fun _ h hz => ⟨h, hz⟩)

end Main

end Cert.Queue

end
-- ==== Proof.Values.lean ====
/-
  What the kernel's program leaves in the buffers it returns and in its arguments, as functions of the arguments.
-/
module

public import proofs.«01_k».proof.Proof.Main

@[expose] public section

set_option maxRecDepth 16384

noncomputable section

namespace Cert.Queue

open Cert.KernelIdeal Cert.KernelIdeal.Gen

open Idealize.ShloMosaic Idealize.ShloMosaic.TcCoe Idealize.ShloMosaic.Tactic
open Idealize.ShloMosaic.StableHlo Idealize.SL.Sem

variable {F : FTy → Type} [FloatOps F]

/-! ## The two results -/

/-- The updated queue: column `j` of the new queue is row `j` of the keys for the first 16384 columns, and the old
    queue's column after them. -/
def newQueue (keys : S16384x128.Idx → Elt F .f32) (queue : S128x262144.Idx → Elt F .f32) : S128x262144.Idx → Elt F .f32 :=
  blend (turnAll keys) queue

/-- The divisor, with the guard against zero that jax's remainder carries. -/
def divisor : IVec S_ 32 :=
  select (cmpi .eq (id (constantI S_ 32 262144#32)) (constantI S_ 32 0#32)) (constantI S_ 32 1#32) (id (constantI S_ 32 262144#32))

/-- The moved pointer: 16384 added, the remainder by the queue's length taken, and brought to the divisor's sign. -/
def newPtr (p : IVec S1 32) : IVec S1 32 :=
  let spread (x : IVec S_ 32) : IVec S1 32 := broadcastInDim S1 ![] bcast_S_S1 x
  let r : IVec S1 32 := Host.remsi (addi p (spread (constantI S_ 32 16384#32))) (spread divisor)
  select (andi (cmpi .ne (cmpi .slt r (spread (constantI S_ 32 0#32))) (broadcastInDim S1 ![] bcast_S_S1 (cmpi .slt divisor (constantI S_ 32 0#32))))
    (cmpi .ne r (spread (constantI S_ 32 0#32)))) (addi r (spread divisor)) r

/-! ## The buffers at the end -/

variable (m : (ℓ : Loc nD τ sig) → Buf (Elt F) ℓ)

/-- The copy writes only its result. -/
theorem beforeCall_of_ne (d : Dev nD) {b : Ref sig .tc} (h : b ≠ main_v2) :
    beforeCall m d (Proc.devRef .tc b) = afterKeep (afterTurn (atLaunch m d)) (Proc.devRef .tc b) :=
  StableHlo.after_of_forall_not_mem [copyOp] _ (by
    intro op ho
    rw [List.mem_singleton.mp ho]
    exact fun hb => devRef_ne h (Finset.mem_singleton.mp hb))

/-- The copy's result is its operand. -/
theorem beforeCall_v2 (d : Dev nD) :
    beforeCall m d (Proc.devRef .tc main_v2) = afterKeep (afterTurn (atLaunch m d)) (Proc.devRef .tc main_v1) := by
  show StableHlo.after [copyOp] _ _ = _
  after_results_simp
  rfl

/-- The turned keys the SparseCore call reads, from the launch's keys. -/
theorem callKeys_eq (d : Dev nD) : callKeys m d = turnAll (m (d, Proc.devRef .tc main_arg0)) := by
  unfold callKeys
  rw [beforeCall_of_ne m d (by decide), afterKeep_of_ne _ (by decide), afterTurn_v0]
  rfl

/-- The queue the SparseCore call finds: from column 16384 on the launch's. -/
theorem callQueue_eq (d : Dev nD) : callQueue m d
    = tail (m (d, Proc.devRef .tc main_arg1)) (m (d, Proc.devRef .tc main_v1)) := by
  unfold callQueue
  rw [beforeCall_v2, afterKeep_v1, afterTurn_of_ne _ (by decide), afterTurn_of_ne _ (by decide)]
  rfl

/-- Written over its first columns, the queue found is the new queue. -/
theorem blend_tail (keys : S16384x128.Idx → Elt F .f32) (x o : S128x262144.Idx → Elt F .f32) :
    blend (turnAll keys) (tail x o) = newQueue keys x := by
  unfold newQueue blend tail
  funext j
  split
  · rfl
  · next h => exact if_pos (Nat.le_of_not_lt h)

/-- An argument's buffer before the host operations after the call. -/
theorem afterCall_arg (d : Dev nD) {b : Ref sig .tc} (h2 : b ≠ main_v2) (h1 : b ≠ main_v1) (h0 : b ≠ main_v0) :
    afterCall (beforeCall m d) (Proc.devRef .tc b) = m (d, Proc.devRef .tc b) := by
  rw [afterCall_of_ne _ h2, beforeCall_of_ne m d h2, afterKeep_of_ne _ h1, afterTurn_of_ne _ h0]
  rfl

set_option maxHeartbeats 4000000 in
theorem end_arg0 (d : Dev nD) : atEnd m d (Proc.devRef .tc main_arg0) = m (d, Proc.devRef .tc main_arg0) := by
  unfold atEnd
  simp only [lastOps, TRef.binary, TRef.nullary, TRef.ternary, TRef.unary, TRef.toBuf, TRef.ofBuf, cast_eq]
  after_results_simp
  exact afterCall_arg m d (by decide) (by decide) (by decide)

set_option maxHeartbeats 4000000 in
theorem end_arg1 (d : Dev nD) : atEnd m d (Proc.devRef .tc main_arg1) = m (d, Proc.devRef .tc main_arg1) := by
  unfold atEnd
  simp only [lastOps, TRef.binary, TRef.nullary, TRef.ternary, TRef.unary, TRef.toBuf, TRef.ofBuf, cast_eq]
  after_results_simp
  exact afterCall_arg m d (by decide) (by decide) (by decide)

set_option maxHeartbeats 4000000 in
theorem end_arg2 (d : Dev nD) : atEnd m d (Proc.devRef .tc main_arg2) = m (d, Proc.devRef .tc main_arg2) := by
  unfold atEnd
  simp only [lastOps, TRef.binary, TRef.nullary, TRef.ternary, TRef.unary, TRef.toBuf, TRef.ofBuf, cast_eq]
  after_results_simp
  exact afterCall_arg m d (by decide) (by decide) (by decide)

set_option maxHeartbeats 4000000 in
/-- The first result: the new queue. -/
theorem end_queue (d : Dev nD) : atEnd m d (Proc.devRef .tc main_v2)
    = newQueue (m (d, Proc.devRef .tc main_arg0)) (m (d, Proc.devRef .tc main_arg1)) := by
  unfold atEnd
  simp only [lastOps, TRef.binary, TRef.nullary, TRef.ternary, TRef.unary, TRef.toBuf, TRef.ofBuf, cast_eq]
  after_results_simp
  refine (afterCall_v2 _).trans ?_
  show blend (callKeys m d) (callQueue m d) = _
  rw [callKeys_eq, callQueue_eq, blend_tail]

set_option maxHeartbeats 4000000 in
/-- The second result: the moved pointer. -/
theorem end_ptr (d : Dev nD) : atEnd m d (Proc.devRef .tc main_v5) = newPtr (m (d, Proc.devRef .tc main_arg2)) := by
  rw [← afterCall_arg m d (b := main_arg2) (by decide) (by decide) (by decide)]
  unfold atEnd
  generalize afterCall (beforeCall m d) = V
  simp only [lastOps, TRef.binary, TRef.nullary, TRef.ternary, TRef.unary, TRef.toBuf, TRef.ofBuf, cast_eq]
  after_results_simp
  rfl

/-- The program's run, read at its results and its arguments. -/
theorem run_values [∀ e, Nonempty (Elt F e)] (ρ : Dev nD → PrngReg) :
    θ_run (defs (F := F)) (threads (F := F)) ⟨m, fun _ => 0, ρ⟩ fun r => (∀ d : Dev nD,
        r.2.mem ((d.tc : Thread nD τ).loc main_v2)
            = newQueue (m ((d.tc : Thread nD τ).loc main_arg0)) (m ((d.tc : Thread nD τ).loc main_arg1))
        ∧ r.2.mem ((d.tc : Thread nD τ).loc main_v5) = newPtr (m ((d.tc : Thread nD τ).loc main_arg2))
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2))
      ∧ r.2.sem = fun _ => 0 :=
  (θ_run defs _ _).mono (fun r h => ⟨fun d =>
      ⟨(h.1 d _ (mem_uc (by decide))).trans (end_queue m d), (h.1 d _ (mem_uc (by decide))).trans (end_ptr m d),
        (h.1 d _ (mem_uc (by decide))).trans (end_arg0 m d), (h.1 d _ (mem_uc (by decide))).trans (end_arg1 m d),
        (h.1 d _ (mem_uc (by decide))).trans (end_arg2 m d)⟩, h.2⟩)
    (run_main m ρ)

end Cert.Queue

end
-- ==== Proof.Columns.lean ====
/-
  The reference's result read at an element: with the pointer at 0, update `(r, j)` of its scatter lands at row `r`,
  column `j`, so the scatter writes the transposed keys over the first 16384 columns and nothing else.
-/
module

public import proofs.«01_k».proof.Proof.Gen.ReferenceIdeal.Run
public import Idealize.ShloMosaic.Lib.Routing.OpsPair
public import Idealize.ShloMosaic.Lib.Routing.OpsSet
public import Idealize.ShloMosaic.Lib.Affine

@[expose] public section

set_option maxRecDepth 16384

noncomputable section

namespace Cert.Columns

open Cert.ReferenceIdeal Cert.ReferenceIdeal.Gen

open Idealize.ShloMosaic Idealize.ShloMosaic.TcCoe Idealize.ShloMosaic.ValueIdx

variable {F : FTy → Type} [FloatOps F]

/-! ## The column an update goes to -/

/-- The divisor, with the guard against zero that jax's remainder carries. -/
def divisor : IVec S_ 32 :=
  select (cmpi .eq (id (constantI S_ 32 262144#32)) (constantI S_ 32 0#32)) (constantI S_ 32 1#32) (id (constantI S_ 32 262144#32))

/-- A scalar at every entry. -/
def spread {w : ℕ} (x : IVec S_ w) : IVec S16384 w := broadcastInDim S16384 ![] bcast_S_S16384 x

/-- The remainder of pointer plus position by the queue's length. -/
def rest (p : IVec S1 32) : IVec S16384 32 :=
  Host.remsi (addi (spread (shapeCast _ p shapeCasts_S1_S_)) (iotaInDim S16384 32 0)) (spread divisor)

/-- The same brought to the divisor's sign: the column. -/
def modulo (p : IVec S1 32) : IVec S16384 32 :=
  select (andi (cmpi .ne (cmpi .slt (rest p) (spread (constantI S_ 32 0#32))) (spread (cmpi .slt divisor (constantI S_ 32 0#32))))
    (cmpi .ne (rest p) (spread (constantI S_ 32 0#32)))) (addi (rest p) (spread divisor)) (rest p)

/-- The column as an index: a negative one counted from the end. -/
def column (p : IVec S1 32) : IVec S16384 32 :=
  select (cmpi .slt (modulo p) (spread (constantI S_ 32 0#32))) (addi (modulo p) (spread (constantI S_ 32 262144#32))) (modulo p)

/-- The generated result is the scatter of the transposed keys to those columns. -/
theorem result_eq (m : (ℓ : Loc nD τ sig) → Buf (Elt F) ℓ) (c : Dev nD) :
    Value.res_main_v12 m c
      = Host.scatter scatter_S128x262144_S16384x1_S128x16384_0_1_1_1 (fun _ b => b) (m ((c.tc : Thread nD τ).loc main_arg1))
          (broadcastInDim S16384x1 ![0] bcast_S16384_S16384x1_0 (column (m ((c.tc : Thread nD τ).loc main_arg2))))
          (transpose S128x16384 [1, 0] (m ((c.tc : Thread nD τ).loc main_arg0)) transposes_S16384x128_S128x16384_1_0) := rfl

/-- With the pointer at 0 the remainder at position `b` is `b`. -/
theorem rest_zero (i : S16384.Idx) : rest (fun _ => 0#32) i = BitVec.ofNat 32 (i 0).val := by
  have hb : (i 0).val < 16384 := (i 0).isLt
  show IntOp.remsi .host (IntOp.addi 0#32 (BitVec.ofNat 32 (i 0).val)) (BitVec.ofNat 32 262144) = _
  have hx : IntOp.addi 0#32 (BitVec.ofNat 32 (i 0).val) = BitVec.ofNat 32 (i 0).val := BitVec.zero_add _
  have hn : (BitVec.ofNat 32 (i 0).val).toNat = (i 0).val := by
    rw [BitVec.toNat_ofNat]; exact Nat.mod_eq_of_lt (by omega)
  rw [hx]
  apply BitVec.eq_of_toNat_eq
  rw [IntOp.toNat_remsi .host (by rw [hn]; omega) 262144 (by decide) (by decide), hn]
  exact Nat.mod_eq_of_lt (by omega)

/-- A word below 2³¹ is not negative. -/
theorem not_neg {b : ℕ} (h : b < 16384) : IntOp.cmpi .slt (BitVec.ofNat 32 b) 0#32 = 0#1 := by
  rw [show (0#32 : BitVec 32) = BitVec.ofNat 32 0 from rfl, WordCmp.cmpi_slt_ofNat (by omega) (by decide)]
  simp

theorem modulo_zero (i : S16384.Idx) : modulo (fun _ => 0#32) i = BitVec.ofNat 32 (i 0).val := by
  have hb : (i 0).val < 16384 := (i 0).isLt
  show Scalar.select (IntOp.andi (IntOp.cmpi .ne (IntOp.cmpi .slt (rest (fun _ => 0#32) i) 0#32) 0#1) _) _ (rest (fun _ => 0#32) i) = _
  rw [rest_zero, not_neg hb]
  show Scalar.select (0#1 &&& _) _ _ = _
  rw [BitVec.zero_and]
  rfl

/-- With the pointer at 0 update column `b` goes to column `b`. -/
theorem column_zero (i : S16384.Idx) : column (fun _ => 0#32) i = BitVec.ofNat 32 (i 0).val := by
  have hb : (i 0).val < 16384 := (i 0).isLt
  show Scalar.select (IntOp.cmpi .slt (modulo (fun _ => 0#32) i) 0#32) _ (modulo (fun _ => 0#32) i) = _
  rw [modulo_zero, not_neg hb]
  rfl

/-! ## Where an update lands -/

/-- The scatter's dimension numbers: rows are the updates' window, columns are indexed. -/
abbrev scat : ScatterDims S128x262144 S16384x1 S128x16384 := scatter_S128x262144_S16384x1_S128x16384_0_1_1_1

theorem window_row (k : S128x16384.Idx) : scat.window k 0 = (k 0).val := rfl
theorem window_col (k : S128x16384.Idx) : scat.window k 1 = 0 := rfl
theorem start_row (k : S128x16384.Idx) (idx : IVec S16384x1 32) : scat.start k idx 0 = 0 := rfl
theorem start_col (k : S128x16384.Idx) (idx : IVec S16384x1 32) : scat.start k idx 1 = (idx (ix2 (k 1) (0 : Fin 1))).toInt := by
  show (idx _).toInt = _
  congr 2
  funext a
  match a with
  | ⟨0, _⟩ => rfl
  | ⟨1, _⟩ => rfl

/-- An update lands at the element in its own row and column. -/
theorem lands (k : S128x16384.Idx) (j : S128x262144.Idx) :
    scat.resultIdx? k (broadcastInDim S16384x1 ![0] bcast_S16384_S16384x1_0 (column (fun _ => 0#32))) = some j
      ↔ (k 0).val = (j 0).val ∧ (k 1).val = (j 1).val := by
  have hk : (k 1).val < 16384 := (k 1).isLt
  have hcol : (broadcastInDim S16384x1 ![0] bcast_S16384_S16384x1_0 (column (fun _ => 0#32)) : IVec S16384x1 32) (ix2 (k 1) (0 : Fin 1))
      = BitVec.ofNat 32 (k 1).val :=
    (Routing.bcCol (n := 16384) bcast_S16384_S16384x1_0 (column (fun _ => 0#32)) (k 1)).trans (column_zero _)
  have hint : (BitVec.ofNat 32 (k 1).val).toInt = ((k 1).val : ℤ) :=
    StableHlo.Predicate.toInt_ofNat_small _ (by omega)
  rw [Routing.resultIdx?_eq_some]
  constructor
  · intro h
    have h0 := h 0
    have h1 := h 1
    rw [start_row, window_row] at h0
    rw [start_col, window_col, hcol, hint] at h1
    exact ⟨by omega, by omega⟩
  · rintro ⟨h0, h1⟩ a
    match a with
    | ⟨0, _⟩ =>
      show scat.start k _ 0 + (scat.window k 0 : ℤ) = ((j 0).val : ℤ)
      rw [start_row, window_row]; omega
    | ⟨1, _⟩ =>
      show scat.start k _ 1 + (scat.window k 1 : ℤ) = ((j 1).val : ℤ)
      rw [start_col, window_col, hcol, hint]; omega

/-- The scatter with the pointer at 0: the updates over the first 16384 columns, the operand's elements after them. -/
theorem scatter_zero {α : Type} (x : S128x262144.Idx → α) (u : S128x16384.Idx → α) (j : S128x262144.Idx) :
    Host.scatter scat (fun _ b => b) x (broadcastInDim S16384x1 ![0] bcast_S16384_S16384x1_0 (column (fun _ => 0#32))) u j
      = if h : (j 1).val < 16384 then u (ix2 (j 0) (⟨(j 1).val, h⟩ : Fin 16384)) else x j := by
  rw [Routing.scatter_set_lands scat x _ u j
    (fun n => decide (((S128x16384.rowMajor.symm n) 0).val = (j 0).val ∧ ((S128x16384.rowMajor.symm n) 1).val = (j 1).val))
    (fun n => (lands _ j).trans (by rw [decide_eq_true_eq]))
    (if h : (j 1).val < 16384 then u (ix2 (j 0) (⟨(j 1).val, h⟩ : Fin 16384)) else x j) (fun n hn => ?_)]
  · by_cases h : (j 1).val < 16384
    · rw [if_pos]
      refine List.any_eq_true.mpr ⟨S128x16384.rowMajor (ix2 (j 0) (⟨(j 1).val, h⟩ : Fin 16384)), List.mem_finRange _, ?_⟩
      rw [decide_eq_true_eq, Equiv.symm_apply_apply]
      exact ⟨rfl, rfl⟩
    · rw [dif_neg h, ite_self]
  · have hn := of_decide_eq_true hn
    have h : (j 1).val < 16384 := by
      rw [← hn.2]
      exact ((S128x16384.rowMajor.symm n) 1).isLt
    rw [dif_pos h]
    congr 1
    funext a
    match a with
    | ⟨0, _⟩ => exact Fin.ext hn.1
    | ⟨1, _⟩ => exact Fin.ext hn.2

end Cert.Columns

end
-- ==== Proof.Claims.lean ====
/-
  The claims: the kernel's frame at the machine's words and at the extended reals, the reference's frame, and that the
  two compute the same queue and the same pointer.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_at_start
public import proofs.«01_k».proof.Proof.Values
public import proofs.«01_k».proof.Proof.Columns
public import Idealize.ShloMosaic.Lib.ReduceAll

@[expose] public section

set_option maxRecDepth 16384

noncomputable section

namespace Cert.Queue

open Idealize.ShloMosaic Idealize.ShloMosaic.TcCoe Idealize.ShloMosaic.ValueIdx
open Idealize.SL.Sem

/-! ## Frames -/

/-- The kernel, at any interpretation of its floats, leaves its arguments as they were and every semaphore at zero. -/
theorem run_frame {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ (fun r =>
      (∀ d : Dev Cert.KernelIdeal.nD,
        r.2.mem ((d.tc : Thread Cert.KernelIdeal.nD Cert.KernelIdeal.τ).loc Cert.KernelIdeal.main_arg0) = m ((d.tc : Thread Cert.KernelIdeal.nD Cert.KernelIdeal.τ).loc Cert.KernelIdeal.main_arg0)
        ∧ r.2.mem ((d.tc : Thread Cert.KernelIdeal.nD Cert.KernelIdeal.τ).loc Cert.KernelIdeal.main_arg1) = m ((d.tc : Thread Cert.KernelIdeal.nD Cert.KernelIdeal.τ).loc Cert.KernelIdeal.main_arg1)
        ∧ r.2.mem ((d.tc : Thread Cert.KernelIdeal.nD Cert.KernelIdeal.τ).loc Cert.KernelIdeal.main_arg2) = m ((d.tc : Thread Cert.KernelIdeal.nD Cert.KernelIdeal.τ).loc Cert.KernelIdeal.main_arg2))
      ∧ r.2.sem = fun _ => 0) :=
  (θ_run Cert.KernelIdeal.defs _ _).mono (fun _ h => ⟨fun d => (h.1 d).2.2, h.2⟩) (run_values m ρ)

/-- The two programs have the same bodies, processor by processor and call by call. -/
theorem bodies_eq {F : FTy → Type} [FloatOps F] : Cert.Kernel.defs₀ (F := F) = Cert.KernelIdeal.defs₀ (F := F) := by
  funext p ℓ a
  match p, ℓ, a with
  | .tc, 0, _ => rfl
  | .tc, 1, _ => rfl
  | .tc, 2, _ => rfl
  | .scScalar _, 0, _ => rfl
  | .scScalar _, 1, _ => rfl
  | .scScalar _, 2, _ => rfl
  | .scVector _ _, 0, _ => rfl
  | .scVector _ _, 1, _ => rfl
  | .scVector _ _, 2, _ => rfl

/-- So they have the same definitions, pipelines and launches included. -/
theorem defs_eq {F : FTy → Type} [FloatOps F] : Cert.Kernel.defs (F := F) = Cert.KernelIdeal.defs (F := F) :=
  congrArg (fun D => (Cert.KernelIdeal.sc (F := F)).defs (Pipeline.defs Cert.KernelIdeal.pcfgs D)) bodies_eq

/-- The kernel's frame at the machine's words. -/
theorem frame_kernel : Cert.quiescent_Kernel := fun m ρ _ => by
  show θ_run (Cert.Kernel.defs (F := Bits)) Cert.Kernel.threads _ _
  rw [defs_eq]
  exact run_frame (F := Bits) m ρ

/-- The kernel's frame over the extended reals. -/
theorem frame_ideal : Cert.quiescent_KernelIdeal := fun m ρ _ => run_frame (F := Ideal) m ρ

/-- The reference leaves its arguments as they were; it has no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-! ## The two results -/

/-- The precondition says that the pointer is 0. -/
theorem ptr_zero {keys : Cert.Pre_at_start.S16384x128.Idx → Elt Ideal .f32} {queue : Cert.Pre_at_start.S128x262144.Idx → Elt Ideal .f32}
    {p : IVec Cert.Pre_at_start.S1 32} (h : Cert.Pre_at_start.fn (F := Ideal) keys queue p = fun _ => 1#1) : p = fun _ => 0#32 := by
  have : Subsingleton Cert.Pre_at_start.S_.Idx := ⟨fun a b => funext fun i => i.elim0⟩
  funext i
  have hi := Host.reduce_andi_all _ _ _ _ ValueIdx.ix0 (congrFun h ValueIdx.ix0) i
  have hi : IntOp.cmpi .eq (p i) 0#32 = 1#1 := hi
  rw [WordCmp.cmpi_eq_eq] at hi
  by_contra hne
  rw [decide_eq_false hne] at hi
  exact absurd hi (by decide)

/-- The kernel's queue is the reference's scatter. -/
theorem queue_eq (keys : Cert.KernelIdeal.S16384x128.Idx → Elt Ideal .f32) (queue : Cert.KernelIdeal.S128x262144.Idx → Elt Ideal .f32) :
    Host.scatter Cert.Columns.scat (fun _ b => b) queue
        (broadcastInDim Cert.ReferenceIdeal.S16384x1 ![0] Cert.ReferenceIdeal.Facts₀.bcast_S16384_S16384x1_0 (Cert.Columns.column (fun _ => 0#32)))
        (transpose Cert.ReferenceIdeal.S128x16384 [1, 0] keys Cert.ReferenceIdeal.Facts₀.transposes_S16384x128_S128x16384_1_0)
      = newQueue keys queue := by
  funext j
  refine (Cert.Columns.scatter_zero queue _ j).trans ?_
  unfold newQueue blend
  by_cases h : (j 1).val < 16384
  · rw [dif_pos h, dif_pos h]
    refine congrArg keys (funext fun a => ?_)
    match a with
    | ⟨0, _⟩ => rfl
    | ⟨1, _⟩ => rfl
  · rw [dif_neg h, dif_neg h]

/-- With the pointer at 0 kernel and reference end with the same queue and the same pointer. -/
theorem same_results : Cert.algebraic_KernelIdeal_ReferenceIdeal_pre_at_start := by
  intro m g m' g' hpre hargs
  refine ⟨fun d => newQueue (m ((d.tc : Thread Cert.KernelIdeal.nD Cert.KernelIdeal.τ).loc Cert.KernelIdeal.main_arg0))
      (m ((d.tc : Thread Cert.KernelIdeal.nD Cert.KernelIdeal.τ).loc Cert.KernelIdeal.main_arg1)),
    fun d => newPtr (m ((d.tc : Thread Cert.KernelIdeal.nD Cert.KernelIdeal.τ).loc Cert.KernelIdeal.main_arg2)), ?_, ?_⟩
  · exact (θ_run Cert.KernelIdeal.defs _ _).mono (fun _ h => h.1) (run_values (F := Ideal) m g)
  · refine (θ_run Cert.ReferenceIdeal.defs _ _).mono (fun r h c => ?_) (Cert.ReferenceIdeal.Value.run (F := Ideal) m' g')
    obtain ⟨h0, h1, h2, h3, h4⟩ := h c
    obtain ⟨e0, e1, e2⟩ := hargs c
    refine ⟨h0.trans ?_, h1.trans ?_, h2, h3, h4⟩
    · refine (Cert.Columns.result_eq m' c).trans ?_
      rw [e0, e1, e2, ptr_zero (hpre c)]
      exact queue_eq _ _
    · rw [e2]
      rfl

end Cert.Queue

end
-- ==== Proof.lean ====
/-
  The five claims together, with the facts that the programs state of their shapes.
-/
module

public import proofs.«01_k».proof.Defs
public import proofs.«01_k».proof.Proof.Claims

@[expose] public section

noncomputable section

namespace Cert.Proof

open Cert.Queue

/-- Every claim of the certificate: the frames of the kernel, of its ideal and of the reference, that idealizing kept the
kernel, and that kernel and reference agree when the pointer starts at 0. -/
theorem claim : Cert.Claim := ⟨Cert.Kernel.Gen.facts, Cert.KernelIdeal.Gen.facts, Cert.ReferenceIdeal.Gen.facts, Cert.Pre_at_start.Gen.facts,
  frame_kernel, frame_ideal, fun m ρ _ => frame_ideal m ρ trivial, frame_reference, fun m ρ _ => frame_reference m ρ trivial,
  trivial, same_results⟩

end Cert.Proof

end
